-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S1x1024x1024 : Shape := ⟨3, ![1, 1024, 1024]⟩
abbrev S3x1024x1024 : Shape := ⟨3, ![3, 1024, 1024]⟩
abbrev S3 : Shape := ⟨1, ![3]⟩
abbrev S1 : Shape := ⟨1, ![1]⟩
abbrev S_ : Shape := ⟨0, ![]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S3x1024x1024, .f32⟩
  | .local _ .vmem, ⟨5, _⟩ => ⟨S3x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 : BitVec 1 :=
  let c0_i32_28 : BitVec 32 := 0#32
  let c2_i32_29 : BitVec 32 := 2#32
  let v71 : BitVec 32 := Scalar.remsi c0_i32_28 c2_i32_29
  let c0_i32_34 : BitVec 32 := 0#32
  let v74 : BitVec 1 := Scalar.cmpi .eq v71 c0_i32_34
  let v75 : BitVec 32 := Scalar.extui v74
  let c0_i32_35 : BitVec 32 := 0#32
  let v76 : BitVec 1 := Scalar.cmpi .ne v75 c0_i32_35
  v76

def k0_off1 : Fin 1 → Nat :=
  let c0_i32_30 : BitVec 32 := 0#32
  let c3_i32_31 : BitVec 32 := 3#32
  let v72 : BitVec 32 := Scalar.remsi c0_i32_30 c3_i32_31
  ![v72.toNat]
def k0_off2 : Fin 3 → Nat :=
  let c0_i32_30 : BitVec 32 := 0#32
  let c3_i32_31 : BitVec 32 := 3#32
  let v72 : BitVec 32 := Scalar.remsi c0_i32_30 c3_i32_31
  let c0_i32_87 : BitVec 32 := 0#32
  let c0_i32_88 : BitVec 32 := 0#32
  ![v72.toNat, 0, 0]
def k0_off3 : Fin 3 → Nat :=
  let c0_i32_32 : BitVec 32 := 0#32
  let c4_i32_33 : BitVec 32 := 4#32
  let v73 : BitVec 32 := Scalar.remsi c0_i32_32 c4_i32_33
  let c0_i32_89 : BitVec 32 := 0#32
  let c0_i32_90 : BitVec 32 := 0#32
  ![v73.toNat, 0, 0]
def k0_cond3 : BitVec 1 :=
  let c0_i32_28 : BitVec 32 := 0#32
  let c2_i32_29 : BitVec 32 := 2#32
  let v71 : BitVec 32 := Scalar.remsi c0_i32_28 c2_i32_29
  let c1_i32_36 : BitVec 32 := 1#32
  let v77 : BitVec 1 := Scalar.cmpi .eq v71 c1_i32_36
  let v78 : BitVec 32 := Scalar.extui v77
  let c0_i32_37 : BitVec 32 := 0#32
  let v79 : BitVec 1 := Scalar.cmpi .ne v78 c0_i32_37
  v79

def k0_off4 : Fin 1 → Nat :=
  let c0_i32_30 : BitVec 32 := 0#32
  let c3_i32_31 : BitVec 32 := 3#32
  let v72 : BitVec 32 := Scalar.remsi c0_i32_30 c3_i32_31
  ![v72.toNat]
def k0_off5 : Fin 3 → Nat :=
  let c0_i32_30 : BitVec 32 := 0#32
  let c3_i32_31 : BitVec 32 := 3#32
  let v72 : BitVec 32 := Scalar.remsi c0_i32_30 c3_i32_31
  let c0_i32_87 : BitVec 32 := 0#32
  let c0_i32_88 : BitVec 32 := 0#32
  ![v72.toNat, 0, 0]
def k0_off6 : Fin 3 → Nat :=
  let c0_i32_32 : BitVec 32 := 0#32
  let c4_i32_33 : BitVec 32 := 4#32
  let v73 : BitVec 32 := Scalar.remsi c0_i32_32 c4_i32_33
  let c0_i32_89 : BitVec 32 := 0#32
  let c0_i32_90 : BitVec 32 := 0#32
  ![v73.toNat, 0, 0]
def k0_cond4 : BitVec 1 :=
  let c1_i32_38 : BitVec 32 := 1#32
  let c2_i32_39 : BitVec 32 := 2#32
  let v80 : BitVec 32 := Scalar.remsi c1_i32_38 c2_i32_39
  let c0_i32_44 : BitVec 32 := 0#32
  let v83 : BitVec 1 := Scalar.cmpi .eq v80 c0_i32_44
  let v84 : BitVec 32 := Scalar.extui v83
  let c0_i32_45 : BitVec 32 := 0#32
  let v85 : BitVec 1 := Scalar.cmpi .ne v84 c0_i32_45
  v85

def k0_off7 : Fin 1 → Nat :=
  let c0_i32_40 : BitVec 32 := 0#32
  let c3_i32_41 : BitVec 32 := 3#32
  let v81 : BitVec 32 := Scalar.remsi c0_i32_40 c3_i32_41
  ![v81.toNat]
def k0_off8 : Fin 3 → Nat :=
  let c0_i32_40 : BitVec 32 := 0#32
  let c3_i32_41 : BitVec 32 := 3#32
  let v81 : BitVec 32 := Scalar.remsi c0_i32_40 c3_i32_41
  let c0_i32_87 : BitVec 32 := 0#32
  let c0_i32_88 : BitVec 32 := 0#32
  ![v81.toNat, 0, 0]
def k0_off9 : Fin 3 → Nat :=
  let c1_i32_42 : BitVec 32 := 1#32
  let c4_i32_43 : BitVec 32 := 4#32
  let v82 : BitVec 32 := Scalar.remsi c1_i32_42 c4_i32_43
  let c0_i32_89 : BitVec 32 := 0#32
  let c0_i32_90 : BitVec 32 := 0#32
  ![v82.toNat, 0, 0]
def k0_cond5 : BitVec 1 :=
  let c1_i32_38 : BitVec 32 := 1#32
  let c2_i32_39 : BitVec 32 := 2#32
  let v80 : BitVec 32 := Scalar.remsi c1_i32_38 c2_i32_39
  let c1_i32_46 : BitVec 32 := 1#32
  let v86 : BitVec 1 := Scalar.cmpi .eq v80 c1_i32_46
  let v87 : BitVec 32 := Scalar.extui v86
  let c0_i32_47 : BitVec 32 := 0#32
  let v88 : BitVec 1 := Scalar.cmpi .ne v87 c0_i32_47
  v88

def k0_off10 : Fin 1 → Nat :=
  let c0_i32_40 : BitVec 32 := 0#32
  let c3_i32_41 : BitVec 32 := 3#32
  let v81 : BitVec 32 := Scalar.remsi c0_i32_40 c3_i32_41
  ![v81.toNat]
def k0_off11 : Fin 3 → Nat :=
  let c0_i32_40 : BitVec 32 := 0#32
  let c3_i32_41 : BitVec 32 := 3#32
  let v81 : BitVec 32 := Scalar.remsi c0_i32_40 c3_i32_41
  let c0_i32_87 : BitVec 32 := 0#32
  let c0_i32_88 : BitVec 32 := 0#32
  ![v81.toNat, 0, 0]
def k0_off12 : Fin 3 → Nat :=
  let c1_i32_42 : BitVec 32 := 1#32
  let c4_i32_43 : BitVec 32 := 4#32
  let v82 : BitVec 32 := Scalar.remsi c1_i32_42 c4_i32_43
  let c0_i32_89 : BitVec 32 := 0#32
  let c0_i32_90 : BitVec 32 := 0#32
  ![v82.toNat, 0, 0]
def k0_cond6 : BitVec 1 :=
  let c2_i32_48 : BitVec 32 := 2#32
  let c2_i32_49 : BitVec 32 := 2#32
  let v89 : BitVec 32 := Scalar.remsi c2_i32_48 c2_i32_49
  let c0_i32_54 : BitVec 32 := 0#32
  let v92 : BitVec 1 := Scalar.cmpi .eq v89 c0_i32_54
  let v93 : BitVec 32 := Scalar.extui v92
  let c0_i32_55 : BitVec 32 := 0#32
  let v94 : BitVec 1 := Scalar.cmpi .ne v93 c0_i32_55
  v94

def k0_off13 : Fin 1 → Nat :=
  let c1_i32_50 : BitVec 32 := 1#32
  let c3_i32_51 : BitVec 32 := 3#32
  let v90 : BitVec 32 := Scalar.remsi c1_i32_50 c3_i32_51
  ![v90.toNat]
def k0_off14 : Fin 3 → Nat :=
  let c1_i32_50 : BitVec 32 := 1#32
  let c3_i32_51 : BitVec 32 := 3#32
  let v90 : BitVec 32 := Scalar.remsi c1_i32_50 c3_i32_51
  let c0_i32_87 : BitVec 32 := 0#32
  let c0_i32_88 : BitVec 32 := 0#32
  ![v90.toNat, 0, 0]
def k0_off15 : Fin 3 → Nat :=
  let c2_i32_52 : BitVec 32 := 2#32
  let c4_i32_53 : BitVec 32 := 4#32
  let v91 : BitVec 32 := Scalar.remsi c2_i32_52 c4_i32_53
  let c0_i32_89 : BitVec 32 := 0#32
  let c0_i32_90 : BitVec 32 := 0#32
  ![v91.toNat, 0, 0]
def k0_cond7 : BitVec 1 :=
  let c2_i32_48 : BitVec 32 := 2#32
  let c2_i32_49 : BitVec 32 := 2#32
  let v89 : BitVec 32 := Scalar.remsi c2_i32_48 c2_i32_49
  let c1_i32_56 : BitVec 32 := 1#32
  let v95 : BitVec 1 := Scalar.cmpi .eq v89 c1_i32_56
  let v96 : BitVec 32 := Scalar.extui v95
  let c0_i32_57 : BitVec 32 := 0#32
  let v97 : BitVec 1 := Scalar.cmpi .ne v96 c0_i32_57
  v97

def k0_off16 : Fin 1 → Nat :=
  let c1_i32_50 : BitVec 32 := 1#32
  let c3_i32_51 : BitVec 32 := 3#32
  let v90 : BitVec 32 := Scalar.remsi c1_i32_50 c3_i32_51
  ![v90.toNat]
def k0_off17 : Fin 3 → Nat :=
  let c1_i32_50 : BitVec 32 := 1#32
  let c3_i32_51 : BitVec 32 := 3#32
  let v90 : BitVec 32 := Scalar.remsi c1_i32_50 c3_i32_51
  let c0_i32_87 : BitVec 32 := 0#32
  let c0_i32_88 : BitVec 32 := 0#32
  ![v90.toNat, 0, 0]
def k0_off18 : Fin 3 → Nat :=
  let c2_i32_52 : BitVec 32 := 2#32
  let c4_i32_53 : BitVec 32 := 4#32
  let v91 : BitVec 32 := Scalar.remsi c2_i32_52 c4_i32_53
  let c0_i32_89 : BitVec 32 := 0#32
  let c0_i32_90 : BitVec 32 := 0#32
  ![v91.toNat, 0, 0]
def k0_cond8 : BitVec 1 :=
  let c3_i32_58 : BitVec 32 := 3#32
  let c2_i32_59 : BitVec 32 := 2#32
  let v98 : BitVec 32 := Scalar.remsi c3_i32_58 c2_i32_59
  let c0_i32_64 : BitVec 32 := 0#32
  let v101 : BitVec 1 := Scalar.cmpi .eq v98 c0_i32_64
  let v102 : BitVec 32 := Scalar.extui v101
  let c0_i32_65 : BitVec 32 := 0#32
  let v103 : BitVec 1 := Scalar.cmpi .ne v102 c0_i32_65
  v103

def k0_off19 : Fin 1 → Nat :=
  let c1_i32_60 : BitVec 32 := 1#32
  let c3_i32_61 : BitVec 32 := 3#32
  let v99 : BitVec 32 := Scalar.remsi c1_i32_60 c3_i32_61
  ![v99.toNat]
def k0_off20 : Fin 3 → Nat :=
  let c1_i32_60 : BitVec 32 := 1#32
  let c3_i32_61 : BitVec 32 := 3#32
  let v99 : BitVec 32 := Scalar.remsi c1_i32_60 c3_i32_61
  let c0_i32_87 : BitVec 32 := 0#32
  let c0_i32_88 : BitVec 32 := 0#32
  ![v99.toNat, 0, 0]
def k0_off21 : Fin 3 → Nat :=
  let c3_i32_62 : BitVec 32 := 3#32
  let c4_i32_63 : BitVec 32 := 4#32
  let v100 : BitVec 32 := Scalar.remsi c3_i32_62 c4_i32_63
  let c0_i32_89 : BitVec 32 := 0#32
  let c0_i32_90 : BitVec 32 := 0#32
  ![v100.toNat, 0, 0]
def k0_cond9 : BitVec 1 :=
  let c3_i32_58 : BitVec 32 := 3#32
  let c2_i32_59 : BitVec 32 := 2#32
  let v98 : BitVec 32 := Scalar.remsi c3_i32_58 c2_i32_59
  let c1_i32_66 : BitVec 32 := 1#32
  let v104 : BitVec 1 := Scalar.cmpi .eq v98 c1_i32_66
  let v105 : BitVec 32 := Scalar.extui v104
  let c0_i32_67 : BitVec 32 := 0#32
  let v106 : BitVec 1 := Scalar.cmpi .ne v105 c0_i32_67
  v106

def k0_off22 : Fin 1 → Nat :=
  let c1_i32_60 : BitVec 32 := 1#32
  let c3_i32_61 : BitVec 32 := 3#32
  let v99 : BitVec 32 := Scalar.remsi c1_i32_60 c3_i32_61
  ![v99.toNat]
def k0_off23 : Fin 3 → Nat :=
  let c1_i32_60 : BitVec 32 := 1#32
  let c3_i32_61 : BitVec 32 := 3#32
  let v99 : BitVec 32 := Scalar.remsi c1_i32_60 c3_i32_61
  let c0_i32_87 : BitVec 32 := 0#32
  let c0_i32_88 : BitVec 32 := 0#32
  ![v99.toNat, 0, 0]
def k0_off24 : Fin 3 → Nat :=
  let c3_i32_62 : BitVec 32 := 3#32
  let c4_i32_63 : BitVec 32 := 4#32
  let v100 : BitVec 32 := Scalar.remsi c3_i32_62 c4_i32_63
  let c0_i32_89 : BitVec 32 := 0#32
  let c0_i32_90 : BitVec 32 := 0#32
  ![v100.toNat, 0, 0]
def k0_cond10 : BitVec 1 :=
  let c4_i32_68 : BitVec 32 := 4#32
  let c2_i32_69 : BitVec 32 := 2#32
  let v107 : BitVec 32 := Scalar.remsi c4_i32_68 c2_i32_69
  let c0_i32_74 : BitVec 32 := 0#32
  let v110 : BitVec 1 := Scalar.cmpi .eq v107 c0_i32_74
  let v111 : BitVec 32 := Scalar.extui v110
  let c0_i32_75 : BitVec 32 := 0#32
  let v112 : BitVec 1 := Scalar.cmpi .ne v111 c0_i32_75
  v112

def k0_off25 : Fin 1 → Nat :=
  let c2_i32_70 : BitVec 32 := 2#32
  let c3_i32_71 : BitVec 32 := 3#32
  let v108 : BitVec 32 := Scalar.remsi c2_i32_70 c3_i32_71
  ![v108.toNat]
def k0_off26 : Fin 3 → Nat :=
  let c2_i32_70 : BitVec 32 := 2#32
  let c3_i32_71 : BitVec 32 := 3#32
  let v108 : BitVec 32 := Scalar.remsi c2_i32_70 c3_i32_71
  let c0_i32_87 : BitVec 32 := 0#32
  let c0_i32_88 : BitVec 32 := 0#32
  ![v108.toNat, 0, 0]
def k0_off27 : Fin 3 → Nat :=
  let c4_i32_72 : BitVec 32 := 4#32
  let c4_i32_73 : BitVec 32 := 4#32
  let v109 : BitVec 32 := Scalar.remsi c4_i32_72 c4_i32_73
  let c1024_i32_89 : BitVec 32 := 1024#32
  let c0_i32_90 : BitVec 32 := 0#32
  ![v109.toNat, 1024, 0]
def k0_cond11 : BitVec 1 :=
  let c4_i32_68 : BitVec 32 := 4#32
  let c2_i32_69 : BitVec 32 := 2#32
  let v107 : BitVec 32 := Scalar.remsi c4_i32_68 c2_i32_69
  let c1_i32_76 : BitVec 32 := 1#32
  let v113 : BitVec 1 := Scalar.cmpi .eq v107 c1_i32_76
  let v114 : BitVec 32 := Scalar.extui v113
  let c0_i32_77 : BitVec 32 := 0#32
  let v115 : BitVec 1 := Scalar.cmpi .ne v114 c0_i32_77
  v115

def k0_off28 : Fin 1 → Nat :=
  let c2_i32_70 : BitVec 32 := 2#32
  let c3_i32_71 : BitVec 32 := 3#32
  let v108 : BitVec 32 := Scalar.remsi c2_i32_70 c3_i32_71
  ![v108.toNat]
def k0_off29 : Fin 3 → Nat :=
  let c2_i32_70 : BitVec 32 := 2#32
  let c3_i32_71 : BitVec 32 := 3#32
  let v108 : BitVec 32 := Scalar.remsi c2_i32_70 c3_i32_71
  let c0_i32_87 : BitVec 32 := 0#32
  let c0_i32_88 : BitVec 32 := 0#32
  ![v108.toNat, 0, 0]
def k0_off30 : Fin 3 → Nat :=
  let c4_i32_72 : BitVec 32 := 4#32
  let c4_i32_73 : BitVec 32 := 4#32
  let v109 : BitVec 32 := Scalar.remsi c4_i32_72 c4_i32_73
  let c1024_i32_89 : BitVec 32 := 1024#32
  let c0_i32_90 : BitVec 32 := 0#32
  ![v109.toNat, 1024, 0]
def k0_cond12 : BitVec 1 :=
  let c5_i32 : BitVec 32 := 5#32
  let c2_i32_78 : BitVec 32 := 2#32
  let v116 : BitVec 32 := Scalar.remsi c5_i32 c2_i32_78
  let c0_i32_83 : BitVec 32 := 0#32
  let v119 : BitVec 1 := Scalar.cmpi .eq v116 c0_i32_83
  let v120 : BitVec 32 := Scalar.extui v119
  let c0_i32_84 : BitVec 32 := 0#32
  let v121 : BitVec 1 := Scalar.cmpi .ne v120 c0_i32_84
  v121

def k0_off31 : Fin 1 → Nat :=
  let c2_i32_79 : BitVec 32 := 2#32
  let c3_i32_80 : BitVec 32 := 3#32
  let v117 : BitVec 32 := Scalar.remsi c2_i32_79 c3_i32_80
  ![v117.toNat]
def k0_off32 : Fin 3 → Nat :=
  let c2_i32_79 : BitVec 32 := 2#32
  let c3_i32_80 : BitVec 32 := 3#32
  let v117 : BitVec 32 := Scalar.remsi c2_i32_79 c3_i32_80
  let c0_i32_87 : BitVec 32 := 0#32
  let c0_i32_88 : BitVec 32 := 0#32
  ![v117.toNat, 0, 0]
def k0_off33 : Fin 3 → Nat :=
  let c5_i32_81 : BitVec 32 := 5#32
  let c4_i32_82 : BitVec 32 := 4#32
  let v118 : BitVec 32 := Scalar.remsi c5_i32_81 c4_i32_82
  let c1024_i32_89 : BitVec 32 := 1024#32
  let c0_i32_90 : BitVec 32 := 0#32
  ![v118.toNat, 1024, 0]
def k0_cond13 : BitVec 1 :=
  let c5_i32 : BitVec 32 := 5#32
  let c2_i32_78 : BitVec 32 := 2#32
  let v116 : BitVec 32 := Scalar.remsi c5_i32 c2_i32_78
  let c1_i32_85 : BitVec 32 := 1#32
  let v122 : BitVec 1 := Scalar.cmpi .eq v116 c1_i32_85
  let v123 : BitVec 32 := Scalar.extui v122
  let c0_i32_86 : BitVec 32 := 0#32
  let v124 : BitVec 1 := Scalar.cmpi .ne v123 c0_i32_86
  v124

def k0_off34 : Fin 1 → Nat :=
  let c2_i32_79 : BitVec 32 := 2#32
  let c3_i32_80 : BitVec 32 := 3#32
  let v117 : BitVec 32 := Scalar.remsi c2_i32_79 c3_i32_80
  ![v117.toNat]
def k0_off35 : Fin 3 → Nat :=
  let c2_i32_79 : BitVec 32 := 2#32
  let c3_i32_80 : BitVec 32 := 3#32
  let v117 : BitVec 32 := Scalar.remsi c2_i32_79 c3_i32_80
  let c0_i32_87 : BitVec 32 := 0#32
  let c0_i32_88 : BitVec 32 := 0#32
  ![v117.toNat, 0, 0]
def k0_off36 : Fin 3 → Nat :=
  let c5_i32_81 : BitVec 32 := 5#32
  let c4_i32_82 : BitVec 32 := 4#32
  let v118 : BitVec 32 := Scalar.remsi c5_i32_81 c4_i32_82
  let c1024_i32_89 : BitVec 32 := 1024#32
  let c0_i32_90 : BitVec 32 := 0#32
  ![v118.toNat, 1024, 0]
def k0_cond14 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v5 : BitVec 32 := Scalar.remsi v1 c2_i32
  let c0_i32_23 : BitVec 32 := 0#32
  let v61 : BitVec 1 := Scalar.cmpi .eq v5 c0_i32_23
  let v62 : BitVec 32 := Scalar.extui v61
  let c0_i32_24 : BitVec 32 := 0#32
  let v63 : BitVec 1 := Scalar.cmpi .ne v62 c0_i32_24
  v63

def k0_off37 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_2 : BitVec 32 := 0#32
  let v7 : BitVec 1 := Scalar.cmpi .sgt v1 c0_i32_2
  let v8 : BitVec 32 := Scalar.extui v7
  let c0_i32_3 : BitVec 32 := 0#32
  let v9 : BitVec 1 := Scalar.cmpi .slt v1 c0_i32_3
  let v10 : BitVec 32 := Scalar.extui v9
  let v11 : BitVec 32 := Scalar.subi v8 v10
  let c2_i32_1 : BitVec 32 := 2#32
  let c0_i32_4 : BitVec 32 := 0#32
  let v12 : BitVec 1 := Scalar.cmpi .sgt c2_i32_1 c0_i32_4
  let v13 : BitVec 32 := Scalar.extui v12
  let c0_i32_5 : BitVec 32 := 0#32
  let v14 : BitVec 1 := Scalar.cmpi .slt c2_i32_1 c0_i32_5
  let v15 : BitVec 32 := Scalar.extui v14
  let v16 : BitVec 32 := Scalar.subi v13 v15
  let v17 : BitVec 1 := Scalar.cmpi .ne v11 v16
  let v18 : BitVec 32 := Scalar.remsi v1 c2_i32_1
  let c0_i32_6 : BitVec 32 := 0#32
  let v19 : BitVec 1 := Scalar.cmpi .ne v18 c0_i32_6
  let v20 : BitVec 1 := Scalar.andi v17 v19
  let v6 : BitVec 32 := Scalar.divsi v1 c2_i32_1
  let c1_i32 : BitVec 32 := 1#32
  let v21 : BitVec 32 := Scalar.subi v6 c1_i32
  let v22 : BitVec 32 := Scalar.select v20 v21 v6
  let c3_i32 : BitVec 32 := 3#32
  let v23 : BitVec 32 := Scalar.remsi v22 c3_i32
  ![v23.toNat]
def k0_off38 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_2 : BitVec 32 := 0#32
  let v7 : BitVec 1 := Scalar.cmpi .sgt v1 c0_i32_2
  let v8 : BitVec 32 := Scalar.extui v7
  let c0_i32_3 : BitVec 32 := 0#32
  let v9 : BitVec 1 := Scalar.cmpi .slt v1 c0_i32_3
  let v10 : BitVec 32 := Scalar.extui v9
  let v11 : BitVec 32 := Scalar.subi v8 v10
  let c2_i32_1 : BitVec 32 := 2#32
  let c0_i32_4 : BitVec 32 := 0#32
  let v12 : BitVec 1 := Scalar.cmpi .sgt c2_i32_1 c0_i32_4
  let v13 : BitVec 32 := Scalar.extui v12
  let c0_i32_5 : BitVec 32 := 0#32
  let v14 : BitVec 1 := Scalar.cmpi .slt c2_i32_1 c0_i32_5
  let v15 : BitVec 32 := Scalar.extui v14
  let v16 : BitVec 32 := Scalar.subi v13 v15
  let v17 : BitVec 1 := Scalar.cmpi .ne v11 v16
  let v18 : BitVec 32 := Scalar.remsi v1 c2_i32_1
  let c0_i32_6 : BitVec 32 := 0#32
  let v19 : BitVec 1 := Scalar.cmpi .ne v18 c0_i32_6
  let v20 : BitVec 1 := Scalar.andi v17 v19
  let v6 : BitVec 32 := Scalar.divsi v1 c2_i32_1
  let c1_i32 : BitVec 32 := 1#32
  let v21 : BitVec 32 := Scalar.subi v6 c1_i32
  let v22 : BitVec 32 := Scalar.select v20 v21 v6
  let c3_i32 : BitVec 32 := 3#32
  let v23 : BitVec 32 := Scalar.remsi v22 c3_i32
  let c0_i32_28 : BitVec 32 := 0#32
  let c0_i32_29 : BitVec 32 := 0#32
  ![v23.toNat, 0, 0]
def k0_off39 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_7 : BitVec 32 := 4#32
  let v24 : BitVec 32 := Scalar.remsi v1 c4_i32_7
  let c0_i32_9 : BitVec 32 := 0#32
  let v26 : BitVec 1 := Scalar.cmpi .sgt v1 c0_i32_9
  let v27 : BitVec 32 := Scalar.extui v26
  let c0_i32_10 : BitVec 32 := 0#32
  let v28 : BitVec 1 := Scalar.cmpi .slt v1 c0_i32_10
  let v29 : BitVec 32 := Scalar.extui v28
  let v30 : BitVec 32 := Scalar.subi v27 v29
  let c4_i32_8 : BitVec 32 := 4#32
  let c0_i32_11 : BitVec 32 := 0#32
  let v31 : BitVec 1 := Scalar.cmpi .sgt c4_i32_8 c0_i32_11
  let v32 : BitVec 32 := Scalar.extui v31
  let c0_i32_12 : BitVec 32 := 0#32
  let v33 : BitVec 1 := Scalar.cmpi .slt c4_i32_8 c0_i32_12
  let v34 : BitVec 32 := Scalar.extui v33
  let v35 : BitVec 32 := Scalar.subi v32 v34
  let v36 : BitVec 1 := Scalar.cmpi .ne v30 v35
  let v37 : BitVec 32 := Scalar.remsi v1 c4_i32_8
  let c0_i32_13 : BitVec 32 := 0#32
  let v38 : BitVec 1 := Scalar.cmpi .ne v37 c0_i32_13
  let v39 : BitVec 1 := Scalar.andi v36 v38
  let v25 : BitVec 32 := Scalar.divsi v1 c4_i32_8
  let c1_i32_14 : BitVec 32 := 1#32
  let v40 : BitVec 32 := Scalar.subi v25 c1_i32_14
  let v41 : BitVec 32 := Scalar.select v39 v40 v25
  let c1024_i32 : BitVec 32 := 1024#32
  let v42 : BitVec 32 := Scalar.muli v41 c1024_i32
  let c0_i32_30 : BitVec 32 := 0#32
  ![v24.toNat, v42.toNat, 0]
def k0_off40 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_16 : BitVec 32 := 0#32
  let v44 : BitVec 1 := Scalar.cmpi .sgt v1 c0_i32_16
  let v45 : BitVec 32 := Scalar.extui v44
  let c0_i32_17 : BitVec 32 := 0#32
  let v46 : BitVec 1 := Scalar.cmpi .slt v1 c0_i32_17
  let v47 : BitVec 32 := Scalar.extui v46
  let v48 : BitVec 32 := Scalar.subi v45 v47
  let c2_i32_15 : BitVec 32 := 2#32
  let c0_i32_18 : BitVec 32 := 0#32
  let v49 : BitVec 1 := Scalar.cmpi .sgt c2_i32_15 c0_i32_18
  let v50 : BitVec 32 := Scalar.extui v49
  let c0_i32_19 : BitVec 32 := 0#32
  let v51 : BitVec 1 := Scalar.cmpi .slt c2_i32_15 c0_i32_19
  let v52 : BitVec 32 := Scalar.extui v51
  let v53 : BitVec 32 := Scalar.subi v50 v52
  let v54 : BitVec 1 := Scalar.cmpi .ne v48 v53
  let v55 : BitVec 32 := Scalar.remsi v1 c2_i32_15
  let c0_i32_20 : BitVec 32 := 0#32
  let v56 : BitVec 1 := Scalar.cmpi .ne v55 c0_i32_20
  let v57 : BitVec 1 := Scalar.andi v54 v56
  let v43 : BitVec 32 := Scalar.divsi v1 c2_i32_15
  let c1_i32_21 : BitVec 32 := 1#32
  let v58 : BitVec 32 := Scalar.subi v43 c1_i32_21
  let v59 : BitVec 32 := Scalar.select v57 v58 v43
  let c3_i32_22 : BitVec 32 := 3#32
  let v60 : BitVec 32 := Scalar.remsi v59 c3_i32_22
  let v77 : Index := Scalar.indexCast v60
  let c0 : Index := 0#32
  let c0_31 : Index := 0#32
  ![v77.toNat, 0, 0]
def k0_cond15 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v5 : BitVec 32 := Scalar.remsi v1 c2_i32
  let c1_i32_25 : BitVec 32 := 1#32
  let v64 : BitVec 1 := Scalar.cmpi .eq v5 c1_i32_25
  let v65 : BitVec 32 := Scalar.extui v64
  let c0_i32_26 : BitVec 32 := 0#32
  let v66 : BitVec 1 := Scalar.cmpi .ne v65 c0_i32_26
  v66

def k0_off41 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_2 : BitVec 32 := 0#32
  let v7 : BitVec 1 := Scalar.cmpi .sgt v1 c0_i32_2
  let v8 : BitVec 32 := Scalar.extui v7
  let c0_i32_3 : BitVec 32 := 0#32
  let v9 : BitVec 1 := Scalar.cmpi .slt v1 c0_i32_3
  let v10 : BitVec 32 := Scalar.extui v9
  let v11 : BitVec 32 := Scalar.subi v8 v10
  let c2_i32_1 : BitVec 32 := 2#32
  let c0_i32_4 : BitVec 32 := 0#32
  let v12 : BitVec 1 := Scalar.cmpi .sgt c2_i32_1 c0_i32_4
  let v13 : BitVec 32 := Scalar.extui v12
  let c0_i32_5 : BitVec 32 := 0#32
  let v14 : BitVec 1 := Scalar.cmpi .slt c2_i32_1 c0_i32_5
  let v15 : BitVec 32 := Scalar.extui v14
  let v16 : BitVec 32 := Scalar.subi v13 v15
  let v17 : BitVec 1 := Scalar.cmpi .ne v11 v16
  let v18 : BitVec 32 := Scalar.remsi v1 c2_i32_1
  let c0_i32_6 : BitVec 32 := 0#32
  let v19 : BitVec 1 := Scalar.cmpi .ne v18 c0_i32_6
  let v20 : BitVec 1 := Scalar.andi v17 v19
  let v6 : BitVec 32 := Scalar.divsi v1 c2_i32_1
  let c1_i32 : BitVec 32 := 1#32
  let v21 : BitVec 32 := Scalar.subi v6 c1_i32
  let v22 : BitVec 32 := Scalar.select v20 v21 v6
  let c3_i32 : BitVec 32 := 3#32
  let v23 : BitVec 32 := Scalar.remsi v22 c3_i32
  ![v23.toNat]
def k0_off42 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_2 : BitVec 32 := 0#32
  let v7 : BitVec 1 := Scalar.cmpi .sgt v1 c0_i32_2
  let v8 : BitVec 32 := Scalar.extui v7
  let c0_i32_3 : BitVec 32 := 0#32
  let v9 : BitVec 1 := Scalar.cmpi .slt v1 c0_i32_3
  let v10 : BitVec 32 := Scalar.extui v9
  let v11 : BitVec 32 := Scalar.subi v8 v10
  let c2_i32_1 : BitVec 32 := 2#32
  let c0_i32_4 : BitVec 32 := 0#32
  let v12 : BitVec 1 := Scalar.cmpi .sgt c2_i32_1 c0_i32_4
  let v13 : BitVec 32 := Scalar.extui v12
  let c0_i32_5 : BitVec 32 := 0#32
  let v14 : BitVec 1 := Scalar.cmpi .slt c2_i32_1 c0_i32_5
  let v15 : BitVec 32 := Scalar.extui v14
  let v16 : BitVec 32 := Scalar.subi v13 v15
  let v17 : BitVec 1 := Scalar.cmpi .ne v11 v16
  let v18 : BitVec 32 := Scalar.remsi v1 c2_i32_1
  let c0_i32_6 : BitVec 32 := 0#32
  let v19 : BitVec 1 := Scalar.cmpi .ne v18 c0_i32_6
  let v20 : BitVec 1 := Scalar.andi v17 v19
  let v6 : BitVec 32 := Scalar.divsi v1 c2_i32_1
  let c1_i32 : BitVec 32 := 1#32
  let v21 : BitVec 32 := Scalar.subi v6 c1_i32
  let v22 : BitVec 32 := Scalar.select v20 v21 v6
  let c3_i32 : BitVec 32 := 3#32
  let v23 : BitVec 32 := Scalar.remsi v22 c3_i32
  let c0_i32_28 : BitVec 32 := 0#32
  let c0_i32_29 : BitVec 32 := 0#32
  ![v23.toNat, 0, 0]
def k0_off43 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_7 : BitVec 32 := 4#32
  let v24 : BitVec 32 := Scalar.remsi v1 c4_i32_7
  let c0_i32_9 : BitVec 32 := 0#32
  let v26 : BitVec 1 := Scalar.cmpi .sgt v1 c0_i32_9
  let v27 : BitVec 32 := Scalar.extui v26
  let c0_i32_10 : BitVec 32 := 0#32
  let v28 : BitVec 1 := Scalar.cmpi .slt v1 c0_i32_10
  let v29 : BitVec 32 := Scalar.extui v28
  let v30 : BitVec 32 := Scalar.subi v27 v29
  let c4_i32_8 : BitVec 32 := 4#32
  let c0_i32_11 : BitVec 32 := 0#32
  let v31 : BitVec 1 := Scalar.cmpi .sgt c4_i32_8 c0_i32_11
  let v32 : BitVec 32 := Scalar.extui v31
  let c0_i32_12 : BitVec 32 := 0#32
  let v33 : BitVec 1 := Scalar.cmpi .slt c4_i32_8 c0_i32_12
  let v34 : BitVec 32 := Scalar.extui v33
  let v35 : BitVec 32 := Scalar.subi v32 v34
  let v36 : BitVec 1 := Scalar.cmpi .ne v30 v35
  let v37 : BitVec 32 := Scalar.remsi v1 c4_i32_8
  let c0_i32_13 : BitVec 32 := 0#32
  let v38 : BitVec 1 := Scalar.cmpi .ne v37 c0_i32_13
  let v39 : BitVec 1 := Scalar.andi v36 v38
  let v25 : BitVec 32 := Scalar.divsi v1 c4_i32_8
  let c1_i32_14 : BitVec 32 := 1#32
  let v40 : BitVec 32 := Scalar.subi v25 c1_i32_14
  let v41 : BitVec 32 := Scalar.select v39 v40 v25
  let c1024_i32 : BitVec 32 := 1024#32
  let v42 : BitVec 32 := Scalar.muli v41 c1024_i32
  let c0_i32_30 : BitVec 32 := 0#32
  ![v24.toNat, v42.toNat, 0]
def k0_off44 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_16 : BitVec 32 := 0#32
  let v44 : BitVec 1 := Scalar.cmpi .sgt v1 c0_i32_16
  let v45 : BitVec 32 := Scalar.extui v44
  let c0_i32_17 : BitVec 32 := 0#32
  let v46 : BitVec 1 := Scalar.cmpi .slt v1 c0_i32_17
  let v47 : BitVec 32 := Scalar.extui v46
  let v48 : BitVec 32 := Scalar.subi v45 v47
  let c2_i32_15 : BitVec 32 := 2#32
  let c0_i32_18 : BitVec 32 := 0#32
  let v49 : BitVec 1 := Scalar.cmpi .sgt c2_i32_15 c0_i32_18
  let v50 : BitVec 32 := Scalar.extui v49
  let c0_i32_19 : BitVec 32 := 0#32
  let v51 : BitVec 1 := Scalar.cmpi .slt c2_i32_15 c0_i32_19
  let v52 : BitVec 32 := Scalar.extui v51
  let v53 : BitVec 32 := Scalar.subi v50 v52
  let v54 : BitVec 1 := Scalar.cmpi .ne v48 v53
  let v55 : BitVec 32 := Scalar.remsi v1 c2_i32_15
  let c0_i32_20 : BitVec 32 := 0#32
  let v56 : BitVec 1 := Scalar.cmpi .ne v55 c0_i32_20
  let v57 : BitVec 1 := Scalar.andi v54 v56
  let v43 : BitVec 32 := Scalar.divsi v1 c2_i32_15
  let c1_i32_21 : BitVec 32 := 1#32
  let v58 : BitVec 32 := Scalar.subi v43 c1_i32_21
  let v59 : BitVec 32 := Scalar.select v57 v58 v43
  let c3_i32_22 : BitVec 32 := 3#32
  let v60 : BitVec 32 := Scalar.remsi v59 c3_i32_22
  let v77 : Index := Scalar.indexCast v60
  let c0 : Index := 0#32
  let c0_31 : Index := 0#32
  ![v77.toNat, 0, 0]
def k0_cond16 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32 : BitVec 32 := 6#32
  let v67 : BitVec 32 := Scalar.addi v1 c6_i32
  let c32_i32 : BitVec 32 := 32#32
  let v68 : BitVec 1 := Scalar.cmpi .slt v67 c32_i32
  let v69 : BitVec 32 := Scalar.extui v68
  let c0_i32_27 : BitVec 32 := 0#32
  let v70 : BitVec 1 := Scalar.cmpi .ne v69 c0_i32_27
  v70

def k0_cond17 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c2_i32_29 : BitVec 32 := 2#32
  let v72 : BitVec 32 := Scalar.remsi v71 c2_i32_29
  let c0_i32_47 : BitVec 32 := 0#32
  let v110 : BitVec 1 := Scalar.cmpi .eq v72 c0_i32_47
  let v111 : BitVec 32 := Scalar.extui v110
  let c0_i32_48 : BitVec 32 := 0#32
  let v112 : BitVec 1 := Scalar.cmpi .ne v111 c0_i32_48
  v112

def k0_off45 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c0_i32_31 : BitVec 32 := 0#32
  let v74 : BitVec 1 := Scalar.cmpi .sgt v71 c0_i32_31
  let v75 : BitVec 32 := Scalar.extui v74
  let c0_i32_32 : BitVec 32 := 0#32
  let v76 : BitVec 1 := Scalar.cmpi .slt v71 c0_i32_32
  let v77 : BitVec 32 := Scalar.extui v76
  let v78 : BitVec 32 := Scalar.subi v75 v77
  let c2_i32_30 : BitVec 32 := 2#32
  let c0_i32_33 : BitVec 32 := 0#32
  let v79 : BitVec 1 := Scalar.cmpi .sgt c2_i32_30 c0_i32_33
  let v80 : BitVec 32 := Scalar.extui v79
  let c0_i32_34 : BitVec 32 := 0#32
  let v81 : BitVec 1 := Scalar.cmpi .slt c2_i32_30 c0_i32_34
  let v82 : BitVec 32 := Scalar.extui v81
  let v83 : BitVec 32 := Scalar.subi v80 v82
  let v84 : BitVec 1 := Scalar.cmpi .ne v78 v83
  let v85 : BitVec 32 := Scalar.remsi v71 c2_i32_30
  let c0_i32_35 : BitVec 32 := 0#32
  let v86 : BitVec 1 := Scalar.cmpi .ne v85 c0_i32_35
  let v87 : BitVec 1 := Scalar.andi v84 v86
  let v73 : BitVec 32 := Scalar.divsi v71 c2_i32_30
  let c1_i32_36 : BitVec 32 := 1#32
  let v88 : BitVec 32 := Scalar.subi v73 c1_i32_36
  let v89 : BitVec 32 := Scalar.select v87 v88 v73
  let c3_i32_37 : BitVec 32 := 3#32
  let v90 : BitVec 32 := Scalar.remsi v89 c3_i32_37
  ![v90.toNat]
def k0_off46 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c0_i32_31 : BitVec 32 := 0#32
  let v74 : BitVec 1 := Scalar.cmpi .sgt v71 c0_i32_31
  let v75 : BitVec 32 := Scalar.extui v74
  let c0_i32_32 : BitVec 32 := 0#32
  let v76 : BitVec 1 := Scalar.cmpi .slt v71 c0_i32_32
  let v77 : BitVec 32 := Scalar.extui v76
  let v78 : BitVec 32 := Scalar.subi v75 v77
  let c2_i32_30 : BitVec 32 := 2#32
  let c0_i32_33 : BitVec 32 := 0#32
  let v79 : BitVec 1 := Scalar.cmpi .sgt c2_i32_30 c0_i32_33
  let v80 : BitVec 32 := Scalar.extui v79
  let c0_i32_34 : BitVec 32 := 0#32
  let v81 : BitVec 1 := Scalar.cmpi .slt c2_i32_30 c0_i32_34
  let v82 : BitVec 32 := Scalar.extui v81
  let v83 : BitVec 32 := Scalar.subi v80 v82
  let v84 : BitVec 1 := Scalar.cmpi .ne v78 v83
  let v85 : BitVec 32 := Scalar.remsi v71 c2_i32_30
  let c0_i32_35 : BitVec 32 := 0#32
  let v86 : BitVec 1 := Scalar.cmpi .ne v85 c0_i32_35
  let v87 : BitVec 1 := Scalar.andi v84 v86
  let v73 : BitVec 32 := Scalar.divsi v71 c2_i32_30
  let c1_i32_36 : BitVec 32 := 1#32
  let v88 : BitVec 32 := Scalar.subi v73 c1_i32_36
  let v89 : BitVec 32 := Scalar.select v87 v88 v73
  let c3_i32_37 : BitVec 32 := 3#32
  let v90 : BitVec 32 := Scalar.remsi v89 c3_i32_37
  let c0_i32_51 : BitVec 32 := 0#32
  let c0_i32_52 : BitVec 32 := 0#32
  ![v90.toNat, 0, 0]
def k0_off47 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c4_i32_38 : BitVec 32 := 4#32
  let v91 : BitVec 32 := Scalar.remsi v71 c4_i32_38
  let c0_i32_40 : BitVec 32 := 0#32
  let v93 : BitVec 1 := Scalar.cmpi .sgt v71 c0_i32_40
  let v94 : BitVec 32 := Scalar.extui v93
  let c0_i32_41 : BitVec 32 := 0#32
  let v95 : BitVec 1 := Scalar.cmpi .slt v71 c0_i32_41
  let v96 : BitVec 32 := Scalar.extui v95
  let v97 : BitVec 32 := Scalar.subi v94 v96
  let c4_i32_39 : BitVec 32 := 4#32
  let c0_i32_42 : BitVec 32 := 0#32
  let v98 : BitVec 1 := Scalar.cmpi .sgt c4_i32_39 c0_i32_42
  let v99 : BitVec 32 := Scalar.extui v98
  let c0_i32_43 : BitVec 32 := 0#32
  let v100 : BitVec 1 := Scalar.cmpi .slt c4_i32_39 c0_i32_43
  let v101 : BitVec 32 := Scalar.extui v100
  let v102 : BitVec 32 := Scalar.subi v99 v101
  let v103 : BitVec 1 := Scalar.cmpi .ne v97 v102
  let v104 : BitVec 32 := Scalar.remsi v71 c4_i32_39
  let c0_i32_44 : BitVec 32 := 0#32
  let v105 : BitVec 1 := Scalar.cmpi .ne v104 c0_i32_44
  let v106 : BitVec 1 := Scalar.andi v103 v105
  let v92 : BitVec 32 := Scalar.divsi v71 c4_i32_39
  let c1_i32_45 : BitVec 32 := 1#32
  let v107 : BitVec 32 := Scalar.subi v92 c1_i32_45
  let v108 : BitVec 32 := Scalar.select v106 v107 v92
  let c1024_i32_46 : BitVec 32 := 1024#32
  let v109 : BitVec 32 := Scalar.muli v108 c1024_i32_46
  let c0_i32_53 : BitVec 32 := 0#32
  ![v91.toNat, v109.toNat, 0]
def k0_cond18 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c2_i32_29 : BitVec 32 := 2#32
  let v72 : BitVec 32 := Scalar.remsi v71 c2_i32_29
  let c1_i32_49 : BitVec 32 := 1#32
  let v113 : BitVec 1 := Scalar.cmpi .eq v72 c1_i32_49
  let v114 : BitVec 32 := Scalar.extui v113
  let c0_i32_50 : BitVec 32 := 0#32
  let v115 : BitVec 1 := Scalar.cmpi .ne v114 c0_i32_50
  v115

def k0_off48 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c0_i32_31 : BitVec 32 := 0#32
  let v74 : BitVec 1 := Scalar.cmpi .sgt v71 c0_i32_31
  let v75 : BitVec 32 := Scalar.extui v74
  let c0_i32_32 : BitVec 32 := 0#32
  let v76 : BitVec 1 := Scalar.cmpi .slt v71 c0_i32_32
  let v77 : BitVec 32 := Scalar.extui v76
  let v78 : BitVec 32 := Scalar.subi v75 v77
  let c2_i32_30 : BitVec 32 := 2#32
  let c0_i32_33 : BitVec 32 := 0#32
  let v79 : BitVec 1 := Scalar.cmpi .sgt c2_i32_30 c0_i32_33
  let v80 : BitVec 32 := Scalar.extui v79
  let c0_i32_34 : BitVec 32 := 0#32
  let v81 : BitVec 1 := Scalar.cmpi .slt c2_i32_30 c0_i32_34
  let v82 : BitVec 32 := Scalar.extui v81
  let v83 : BitVec 32 := Scalar.subi v80 v82
  let v84 : BitVec 1 := Scalar.cmpi .ne v78 v83
  let v85 : BitVec 32 := Scalar.remsi v71 c2_i32_30
  let c0_i32_35 : BitVec 32 := 0#32
  let v86 : BitVec 1 := Scalar.cmpi .ne v85 c0_i32_35
  let v87 : BitVec 1 := Scalar.andi v84 v86
  let v73 : BitVec 32 := Scalar.divsi v71 c2_i32_30
  let c1_i32_36 : BitVec 32 := 1#32
  let v88 : BitVec 32 := Scalar.subi v73 c1_i32_36
  let v89 : BitVec 32 := Scalar.select v87 v88 v73
  let c3_i32_37 : BitVec 32 := 3#32
  let v90 : BitVec 32 := Scalar.remsi v89 c3_i32_37
  ![v90.toNat]
def k0_off49 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c0_i32_31 : BitVec 32 := 0#32
  let v74 : BitVec 1 := Scalar.cmpi .sgt v71 c0_i32_31
  let v75 : BitVec 32 := Scalar.extui v74
  let c0_i32_32 : BitVec 32 := 0#32
  let v76 : BitVec 1 := Scalar.cmpi .slt v71 c0_i32_32
  let v77 : BitVec 32 := Scalar.extui v76
  let v78 : BitVec 32 := Scalar.subi v75 v77
  let c2_i32_30 : BitVec 32 := 2#32
  let c0_i32_33 : BitVec 32 := 0#32
  let v79 : BitVec 1 := Scalar.cmpi .sgt c2_i32_30 c0_i32_33
  let v80 : BitVec 32 := Scalar.extui v79
  let c0_i32_34 : BitVec 32 := 0#32
  let v81 : BitVec 1 := Scalar.cmpi .slt c2_i32_30 c0_i32_34
  let v82 : BitVec 32 := Scalar.extui v81
  let v83 : BitVec 32 := Scalar.subi v80 v82
  let v84 : BitVec 1 := Scalar.cmpi .ne v78 v83
  let v85 : BitVec 32 := Scalar.remsi v71 c2_i32_30
  let c0_i32_35 : BitVec 32 := 0#32
  let v86 : BitVec 1 := Scalar.cmpi .ne v85 c0_i32_35
  let v87 : BitVec 1 := Scalar.andi v84 v86
  let v73 : BitVec 32 := Scalar.divsi v71 c2_i32_30
  let c1_i32_36 : BitVec 32 := 1#32
  let v88 : BitVec 32 := Scalar.subi v73 c1_i32_36
  let v89 : BitVec 32 := Scalar.select v87 v88 v73
  let c3_i32_37 : BitVec 32 := 3#32
  let v90 : BitVec 32 := Scalar.remsi v89 c3_i32_37
  let c0_i32_51 : BitVec 32 := 0#32
  let c0_i32_52 : BitVec 32 := 0#32
  ![v90.toNat, 0, 0]
def k0_off50 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c6_i32_28 : BitVec 32 := 6#32
  let v71 : BitVec 32 := Scalar.addi v1 c6_i32_28
  let c4_i32_38 : BitVec 32 := 4#32
  let v91 : BitVec 32 := Scalar.remsi v71 c4_i32_38
  let c0_i32_40 : BitVec 32 := 0#32
  let v93 : BitVec 1 := Scalar.cmpi .sgt v71 c0_i32_40
  let v94 : BitVec 32 := Scalar.extui v93
  let c0_i32_41 : BitVec 32 := 0#32
  let v95 : BitVec 1 := Scalar.cmpi .slt v71 c0_i32_41
  let v96 : BitVec 32 := Scalar.extui v95
  let v97 : BitVec 32 := Scalar.subi v94 v96
  let c4_i32_39 : BitVec 32 := 4#32
  let c0_i32_42 : BitVec 32 := 0#32
  let v98 : BitVec 1 := Scalar.cmpi .sgt c4_i32_39 c0_i32_42
  let v99 : BitVec 32 := Scalar.extui v98
  let c0_i32_43 : BitVec 32 := 0#32
  let v100 : BitVec 1 := Scalar.cmpi .slt c4_i32_39 c0_i32_43
  let v101 : BitVec 32 := Scalar.extui v100
  let v102 : BitVec 32 := Scalar.subi v99 v101
  let v103 : BitVec 1 := Scalar.cmpi .ne v97 v102
  let v104 : BitVec 32 := Scalar.remsi v71 c4_i32_39
  let c0_i32_44 : BitVec 32 := 0#32
  let v105 : BitVec 1 := Scalar.cmpi .ne v104 c0_i32_44
  let v106 : BitVec 1 := Scalar.andi v103 v105
  let v92 : BitVec 32 := Scalar.divsi v71 c4_i32_39
  let c1_i32_45 : BitVec 32 := 1#32
  let v107 : BitVec 32 := Scalar.subi v92 c1_i32_45
  let v108 : BitVec 32 := Scalar.select v106 v107 v92
  let c1024_i32_46 : BitVec 32 := 1024#32
  let v109 : BitVec 32 := Scalar.muli v108 c1024_i32_46
  let c0_i32_53 : BitVec 32 := 0#32
  ![v91.toNat, v109.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Twin.lean ====
/- The kernel as printed and the kernel printed for the ideal reading are one program: no operation was rewritten
   between them, so a run of the second, at any float values, is a run of the first. -/
module

public import proofs.«01_k».proof.Proof.Gen.Kernel.Frame
public import proofs.«01_k».proof.Proof.Gen.KernelIdeal.Frame

@[expose] public section

noncomputable section

namespace Cert.Proof

open Idealize.ShloMosaic Idealize.SL.Sem

variable {F : FTy → Type} [FloatOps F]

/-- The two body tables agree at their one row. -/
theorem bodies_eq : Cert.Kernel.defs₀ (F := F) = Cert.KernelIdeal.defs₀ (F := F) := by
  unfold Cert.Kernel.defs₀ Cert.KernelIdeal.defs₀
  congr 1
  funext f x
  match f, x with
  | 0, (t, s) => rfl
theorem defs_eq : Cert.Kernel.defs (F := F) = Cert.KernelIdeal.defs (F := F) :=
  congrArg (Pipeline.defs Cert.KernelIdeal.pcfgs) bodies_eq
theorem main_eq : Cert.Kernel.main (F := F) = Cert.KernelIdeal.main (F := F) := rfl

end Cert.Proof

end
-- ==== Proof.Names.lean ====
/- The names the proof gives to what the kernel moves: the six scratch slots (two rings of three), the six
   semaphore cells, the thirty-two blocks of `x`, and the ownership of each. The equations that turn the kernel's
   own spelling of a slot, a cell or a block into these names come last. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Ring.Trips
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The memory the kernel addresses itself -/

/-- The operand `x`, left in HBM. -/
abbrev xM : Memref sig .tc .hbm S4x8192x1024 .f32 := Memref.whole main_arg0
/-- The two rings' scratch buffers: even blocks land in the first, odd blocks in the second. -/
abbrev ring0 : Memref sig .tc .vmem S3x1024x1024 .f32 := Memref.whole cc0_scratch0
abbrev ring1 : Memref sig .tc .vmem S3x1024x1024 .f32 := Memref.whole cc0_scratch1

/-- The slot of its ring that block `k` uses. -/
abbrev sl (k : ℕ) : Fin 3 := ⟨k / 2 % 3, Nat.mod_lt _ (by decide)⟩
/-- Block `k` as a number below thirty-two. -/
abbrev bk (k : ℕ) : Fin 32 := ⟨k % 32, Nat.mod_lt _ (by decide)⟩

theorem slot_inb (s : Fin 3) : ∀ a, (![s.val, 0, 0] : Fin 3 → Nat) a + S1x1024x1024.size a ≤ S3x1024x1024.size a := by
  have := s.isLt; intro a; fin_cases a <;> simp <;> omega
theorem block_inb (b : Fin 32) : ∀ a, (![b.val % 4, 1024 * (b.val / 4), 0] : Fin 3 → Nat) a + S1x1024x1024.size a ≤ S4x8192x1024.size a := by
  have := b.isLt; intro a; fin_cases a <;> simp <;> omega
theorem cell_inb (s : Fin 3) : ∀ a, (![s.val] : Fin 1 → Nat) a + S1.size a ≤ S3.size a := by
  have := s.isLt; intro a; fin_cases a <;> simp <;> omega

/-- Slot `s` of the ring in `M`. -/
def slotM (M : Memref sig .tc .vmem S3x1024x1024 .f32) (s : Fin 3) : Memref sig .tc .vmem S1024x1024 .f32 :=
  (M.slice (Rect.unit (s := S3x1024x1024) ![s.val, 0, 0] S1x1024x1024.size (slot_inb s)) (fun _ => rfl)).squeeze S1024x1024 squeezes_S1x1024x1024_S1024x1024
/-- Block `b` of `x`: batch entry `b % 4`, rows `1024 * (b / 4)` onward. -/
def blockM (b : Fin 32) : Memref sig .tc .hbm S1024x1024 .f32 :=
  (xM.slice (Rect.unit (s := S4x8192x1024) ![b.val % 4, 1024 * (b.val / 4), 0] S1x1024x1024.size (block_inb b)) (fun _ => rfl)).squeeze S1024x1024 squeezes_S1x1024x1024_S1024x1024
/-- Cell `s` of the semaphore array `A`. -/
def cellA (A : DmaSems sig S3) (s : Fin 3) : DmaSems sig S_ := (A.slice (Rect.unit (s := S3) ![s.val] S1.size (cell_inb s))).squeeze S_ squeezes_S1_S_
abbrev cellL (A : DmaSems sig S3) (s : Fin 3) : SemLoc sig := SemLoc.dma (cellA A s).sem

/-- Contents of memref `M`'s buffer on core `c`. -/
abbrev BufOf (c : Dev nD) {sp : Space} {S : Shape} {e : EltTy} (M : Memref sig .tc sp S e) : Type := Buf (Elt F) (M.view.loc (c : Thread nD τ))

section Own
variable (M : Memref sig .tc .vmem S3x1024x1024 .f32) (A : DmaSems sig S3) (q : PosShare TreeShare)
variable (c : Dev nD) (W : BufOf (F := F) c xM)

/-- Slot `s` held at `f`. -/
abbrev slotP (s : Fin 3) (f : BufOf (F := F) c (slotM M s)) : sProp 𝕄 := (slotM M s).view.loc (c : Thread nD τ) ↦[(slotM M s).view.set]{fullShare} f
/-- Cell `s` at zero. -/
abbrev cellP (s : Fin 3) : sProp 𝕄 := semVal ((c : Thread nD τ), cellL A s) 0
/-- Each slot has a read share of `x` of its own: what a copy into the slot borrows block `b` from. -/
abbrev blockP (s : Fin 3) (b : Fin 32) : sProp 𝕄 := (blockM b).view.loc (c : Thread nD τ) ↦[(blockM b).view.set]{Ring.shares3 q s} W
/-- The rest of that share while block `b` is lent. -/
def restP (s : Fin 3) (b : Fin 32) : sProp 𝕄 := ((c : Thread nD τ).loc main_arg0) ↦[Finset.univ \ (blockM b).view.set]{Ring.shares3 q s} W
/-- The whole of that share. -/
abbrev wholeP (s : Fin 3) : sProp 𝕄 := ((c : Thread nD τ).loc main_arg0) ↦[Finset.univ]{Ring.shares3 q s} W
/-- What slot `s` holds once block `b` has landed in it. -/
abbrev landed (s : Fin 3) (b : Fin 32) (f : BufOf (F := F) c (slotM M s)) : BufOf (F := F) c (slotM M s) :=
  (slotM M s).view.writes (Elt F) f [⟨Rect.whole S1024x1024, ReadAs.same.apply ((blockM b).view.read (Elt F) W)⟩]
/-- Block `b` on its way into slot `s`. -/
abbrev flightP (s : Fin 3) (b : Fin 32) (f : BufOf (F := F) c (slotM M s)) : sProp 𝕄 :=
  Transfers.Flight countersEmb (c : Thread nD τ) (cellL A s) default ((slotM M s).view.amount (cellL A s))
    iprop(slotP M c s (landed M c W s b f) ∗ blockP q c W s b)

/-- Slot `s` idle: its cell at zero, the slot at anything, its share of `x` whole. -/
def idleP (s : Fin 3) : sProp 𝕄 := iprop(cellP (F := F) A c s ∗ ∃ f, slotP M c s f ∗ wholeP q c W s)
/-- Slot `s` with block `b` on its way. -/
def busyP (s : Fin 3) (b : Fin 32) : sProp 𝕄 := iprop(∃ f, flightP M A q c W s b f ∗ restP q c W s b)

theorem whole_split (s : Fin 3) (b : Fin 32) : wholeP (F := F) q c W s ⊣⊢ iprop(blockP q c W s b ∗ restP q c W s b) := by
  unfold restP; exact pointsTo_split_subset (Finset.subset_univ _)

/-- Block `b` of `x` as `W` holds it. -/
abbrev blk (b : Fin 32) : Vec F S1024x1024 .f32 := (blockM b).view.read (Elt F) W
/-- What the kernel writes for block `b` beside table block `y`: their sum. -/
def outB (b : Fin 32) (y : Vec F S1024x1024 .f32) : Vec F S1x1024x1024 .f32 :=
  shapeCast S1x1024x1024 (addf (blk c W b) y) shapeCasts_S1024x1024_S1x1024x1024
end Own

section Turn
variable (c : Dev nD) (W : BufOf (F := F) c xM)

/-- The buffer of block `k`'s turn, with block `b` on its way: the even turns have the first ring, the odd ones the
    second, and each ring reads half of the share of `x`. -/
def busy (k : ℕ) (b : Fin 32) : sProp 𝕄 :=
  if k % 2 = 0 then busyP ring0 cc0_scratch2 fullShare.left c W (sl k) b
  else busyP ring1 cc0_scratch3 fullShare.right c W (sl k) b
/-- The buffer of block `k`'s turn, idle. -/
def idle (k : ℕ) : sProp 𝕄 :=
  if k % 2 = 0 then idleP ring0 cc0_scratch2 fullShare.left c W (sl k)
  else idleP ring1 cc0_scratch3 fullShare.right c W (sl k)
/-- What turn `k` leaves its buffer in: with the block six turns on, if there is one. -/
def after (k : ℕ) : sProp 𝕄 := if k + 6 < 32 then busy c W k (bk (k + 6)) else idle c W k

/-- The payload of the store, when the slot holds block `b` as it landed. -/
theorem pay_slot (M : Memref sig .tc .vmem S3x1024x1024 .f32) (s : Fin 3) {off : Fin 3 → Nat} (ho : off = ![s.val, 0, 0])
    (hi : ∀ a, off a + S1x1024x1024.size a ≤ S3x1024x1024.size a) (g : BufOf (F := F) c (slotM M s)) (b : Fin 32)
    (y : Vec F S1024x1024 .f32) :
    shapeCast S1x1024x1024 (addf (shapeCast S1024x1024 (M.view.readAt (Elt F) (Rect.unit (s := S3x1024x1024) off S1x1024x1024.size hi).toLoadRect
      (landed M c W s b g)) shapeCasts_S1x1024x1024_S1024x1024) y) shapeCasts_S1024x1024_S1x1024x1024 = outB c W b y := by
  subst ho
  unfold outB
  refine congrArg (fun z => shapeCast S1x1024x1024 (addf z y) shapeCasts_S1024x1024_S1x1024x1024) ?_
  exact View.read_writes_whole (slotM M s).view g (blk c W b)
end Turn

/-! ## The kernel's spellings are these names -/

section Canon
omit [FloatOps F]

theorem slotM_of {M : Memref sig .tc .vmem S3x1024x1024 .f32} {off : Fin 3 → Nat} (s : Fin 3) (h : off = ![s.val, 0, 0])
    (hi : ∀ a, off a + S1x1024x1024.size a ≤ S3x1024x1024.size a) :
    (M.slice (Rect.unit (s := S3x1024x1024) off S1x1024x1024.size hi) (fun _ => rfl)).squeeze S1024x1024 squeezes_S1x1024x1024_S1024x1024 = slotM M s := by
  subst h; rfl
theorem blockM_of {off : Fin 3 → Nat} (b : Fin 32) (h : off = ![b.val % 4, 1024 * (b.val / 4), 0])
    (hi : ∀ a, off a + S1x1024x1024.size a ≤ S4x8192x1024.size a) :
    (xM.slice (Rect.unit (s := S4x8192x1024) off S1x1024x1024.size hi) (fun _ => rfl)).squeeze S1024x1024 squeezes_S1x1024x1024_S1024x1024 = blockM b := by
  subst h; rfl
theorem cellA_of {A : DmaSems sig S3} {off : Fin 1 → Nat} (s : Fin 3) (h : off = ![s.val])
    (hi : ∀ a, off a + S1.size a ≤ S3.size a) :
    (A.slice (Rect.unit (s := S3) off S1.size hi)).squeeze S_ squeezes_S1_S_ = cellA A s := by
  subst h; rfl

end Canon

/-! ## The conditions and offsets of a point -/

theorem cond1_iff : ∀ t : Fin grid0.N, k0_cond1 (grid0.coords t) = 1#1 ↔ t.val = 0 := by decide +kernel
theorem cond14_iff : ∀ t : Fin grid0.N, k0_cond14 (grid0.coords t) = 1#1 ↔ t.val % 2 = 0 := by decide +kernel
theorem cond15_iff : ∀ t : Fin grid0.N, k0_cond15 (grid0.coords t) = 1#1 ↔ t.val % 2 = 1 := by decide +kernel
theorem cond16_iff : ∀ t : Fin grid0.N, k0_cond16 (grid0.coords t) = 1#1 ↔ t.val + 6 < 32 := by decide +kernel
theorem cond17_iff : ∀ t : Fin grid0.N, k0_cond17 (grid0.coords t) = 1#1 ↔ t.val % 2 = 0 := by decide +kernel
theorem cond18_iff : ∀ t : Fin grid0.N, k0_cond18 (grid0.coords t) = 1#1 ↔ t.val % 2 = 1 := by decide +kernel

theorem off37 : ∀ t : Fin grid0.N, k0_off37 (grid0.coords t) = ![(sl t.val).val] := by decide +kernel
theorem off38 : ∀ t : Fin grid0.N, k0_off38 (grid0.coords t) = ![(sl t.val).val, 0, 0] := by decide +kernel
theorem off39 : ∀ t : Fin grid0.N, k0_off39 (grid0.coords t) = ![(bk t.val).val % 4, 1024 * ((bk t.val).val / 4), 0] := by decide +kernel
theorem off40 : ∀ t : Fin grid0.N, k0_off40 (grid0.coords t) = ![(sl t.val).val, 0, 0] := by decide +kernel
theorem off41 : ∀ t : Fin grid0.N, k0_off41 (grid0.coords t) = ![(sl t.val).val] := by decide +kernel
theorem off42 : ∀ t : Fin grid0.N, k0_off42 (grid0.coords t) = ![(sl t.val).val, 0, 0] := by decide +kernel
theorem off43 : ∀ t : Fin grid0.N, k0_off43 (grid0.coords t) = ![(bk t.val).val % 4, 1024 * ((bk t.val).val / 4), 0] := by decide +kernel
theorem off44 : ∀ t : Fin grid0.N, k0_off44 (grid0.coords t) = ![(sl t.val).val, 0, 0] := by decide +kernel
theorem off45 : ∀ t : Fin grid0.N, k0_off45 (grid0.coords t) = ![(sl t.val).val] := by decide +kernel
theorem off46 : ∀ t : Fin grid0.N, k0_off46 (grid0.coords t) = ![(sl t.val).val, 0, 0] := by decide +kernel
theorem off47 : ∀ t : Fin grid0.N, t.val + 6 < 32 → k0_off47 (grid0.coords t) = ![(bk (t.val + 6)).val % 4, 1024 * ((bk (t.val + 6)).val / 4), 0] := by decide +kernel
theorem off48 : ∀ t : Fin grid0.N, k0_off48 (grid0.coords t) = ![(sl t.val).val] := by decide +kernel
theorem off49 : ∀ t : Fin grid0.N, k0_off49 (grid0.coords t) = ![(sl t.val).val, 0, 0] := by decide +kernel
theorem off50 : ∀ t : Fin grid0.N, t.val + 6 < 32 → k0_off50 (grid0.coords t) = ![(bk (t.val + 6)).val % 4, 1024 * ((bk (t.val + 6)).val / 4), 0] := by decide +kernel

/-! The slot, cell and block of each copy and wait, in the proof's names: the six copies of the first point, the wait
    of a point in either ring, the copy a point starts in either ring. -/

section Canon
omit [FloatOps F]
@[sl_canon] theorem canon1 (hi) : (cc0_scratch2.slice (Rect.unit (s := S3) (k0_off1) S1.size hi)).squeeze S_ squeezes_S1_S_ = cellA cc0_scratch2 0 := cellA_of _ k0_off1_eq hi
@[sl_canon] theorem canon2 (hi) : (ring0.slice (Rect.unit (s := S3x1024x1024) (k0_off2) S1x1024x1024.size hi) (fun _ => rfl)).squeeze S1024x1024 squeezes_S1x1024x1024_S1024x1024 = slotM ring0 0 := slotM_of _ k0_off2_eq hi
@[sl_canon] theorem canon3 (hi) : (xM.slice (Rect.unit (s := S4x8192x1024) (k0_off3) S1x1024x1024.size hi) (fun _ => rfl)).squeeze S1024x1024 squeezes_S1x1024x1024_S1024x1024 = blockM 0 := blockM_of _ k0_off3_eq hi
@[sl_canon] theorem canon10 (hi) : (cc0_scratch3.slice (Rect.unit (s := S3) (k0_off10) S1.size hi)).squeeze S_ squeezes_S1_S_ = cellA cc0_scratch3 0 := cellA_of _ k0_off10_eq hi
@[sl_canon] theorem canon11 (hi) : (ring1.slice (Rect.unit (s := S3x1024x1024) (k0_off11) S1x1024x1024.size hi) (fun _ => rfl)).squeeze S1024x1024 squeezes_S1x1024x1024_S1024x1024 = slotM ring1 0 := slotM_of _ k0_off11_eq hi
@[sl_canon] theorem canon12 (hi) : (xM.slice (Rect.unit (s := S4x8192x1024) (k0_off12) S1x1024x1024.size hi) (fun _ => rfl)).squeeze S1024x1024 squeezes_S1x1024x1024_S1024x1024 = blockM 1 := blockM_of _ k0_off12_eq hi
@[sl_canon] theorem canon13 (hi) : (cc0_scratch2.slice (Rect.unit (s := S3) (k0_off13) S1.size hi)).squeeze S_ squeezes_S1_S_ = cellA cc0_scratch2 1 := cellA_of _ k0_off13_eq hi
@[sl_canon] theorem canon14 (hi) : (ring0.slice (Rect.unit (s := S3x1024x1024) (k0_off14) S1x1024x1024.size hi) (fun _ => rfl)).squeeze S1024x1024 squeezes_S1x1024x1024_S1024x1024 = slotM ring0 1 := slotM_of _ k0_off14_eq hi
@[sl_canon] theorem canon15 (hi) : (xM.slice (Rect.unit (s := S4x8192x1024) (k0_off15) S1x1024x1024.size hi) (fun _ => rfl)).squeeze S1024x1024 squeezes_S1x1024x1024_S1024x1024 = blockM 2 := blockM_of _ k0_off15_eq hi
@[sl_canon] theorem canon22 (hi) : (cc0_scratch3.slice (Rect.unit (s := S3) (k0_off22) S1.size hi)).squeeze S_ squeezes_S1_S_ = cellA cc0_scratch3 1 := cellA_of _ k0_off22_eq hi
@[sl_canon] theorem canon23 (hi) : (ring1.slice (Rect.unit (s := S3x1024x1024) (k0_off23) S1x1024x1024.size hi) (fun _ => rfl)).squeeze S1024x1024 squeezes_S1x1024x1024_S1024x1024 = slotM ring1 1 := slotM_of _ k0_off23_eq hi
@[sl_canon] theorem canon24 (hi) : (xM.slice (Rect.unit (s := S4x8192x1024) (k0_off24) S1x1024x1024.size hi) (fun _ => rfl)).squeeze S1024x1024 squeezes_S1x1024x1024_S1024x1024 = blockM 3 := blockM_of _ k0_off24_eq hi
@[sl_canon] theorem canon25 (hi) : (cc0_scratch2.slice (Rect.unit (s := S3) (k0_off25) S1.size hi)).squeeze S_ squeezes_S1_S_ = cellA cc0_scratch2 2 := cellA_of _ k0_off25_eq hi
@[sl_canon] theorem canon26 (hi) : (ring0.slice (Rect.unit (s := S3x1024x1024) (k0_off26) S1x1024x1024.size hi) (fun _ => rfl)).squeeze S1024x1024 squeezes_S1x1024x1024_S1024x1024 = slotM ring0 2 := slotM_of _ k0_off26_eq hi
@[sl_canon] theorem canon27 (hi) : (xM.slice (Rect.unit (s := S4x8192x1024) (k0_off27) S1x1024x1024.size hi) (fun _ => rfl)).squeeze S1024x1024 squeezes_S1x1024x1024_S1024x1024 = blockM 4 := blockM_of _ k0_off27_eq hi
@[sl_canon] theorem canon34 (hi) : (cc0_scratch3.slice (Rect.unit (s := S3) (k0_off34) S1.size hi)).squeeze S_ squeezes_S1_S_ = cellA cc0_scratch3 2 := cellA_of _ k0_off34_eq hi
@[sl_canon] theorem canon35 (hi) : (ring1.slice (Rect.unit (s := S3x1024x1024) (k0_off35) S1x1024x1024.size hi) (fun _ => rfl)).squeeze S1024x1024 squeezes_S1x1024x1024_S1024x1024 = slotM ring1 2 := slotM_of _ k0_off35_eq hi
@[sl_canon] theorem canon36 (hi) : (xM.slice (Rect.unit (s := S4x8192x1024) (k0_off36) S1x1024x1024.size hi) (fun _ => rfl)).squeeze S1024x1024 squeezes_S1x1024x1024_S1024x1024 = blockM 5 := blockM_of _ k0_off36_eq hi
@[sl_canon] theorem canon37 (t : Fin grid0.N) (hi) : (cc0_scratch2.slice (Rect.unit (s := S3) (k0_off37 (grid0.coords t)) S1.size hi)).squeeze S_ squeezes_S1_S_ = cellA cc0_scratch2 (sl t.val) := cellA_of _ (off37 t) hi
@[sl_canon] theorem canon38 (t : Fin grid0.N) (hi) : (ring0.slice (Rect.unit (s := S3x1024x1024) (k0_off38 (grid0.coords t)) S1x1024x1024.size hi) (fun _ => rfl)).squeeze S1024x1024 squeezes_S1x1024x1024_S1024x1024 = slotM ring0 (sl t.val) := slotM_of _ (off38 t) hi
@[sl_canon] theorem canon39 (t : Fin grid0.N) (hi) : (xM.slice (Rect.unit (s := S4x8192x1024) (k0_off39 (grid0.coords t)) S1x1024x1024.size hi) (fun _ => rfl)).squeeze S1024x1024 squeezes_S1x1024x1024_S1024x1024 = blockM (bk t.val) := blockM_of _ (off39 t) hi
@[sl_canon] theorem canon41 (t : Fin grid0.N) (hi) : (cc0_scratch3.slice (Rect.unit (s := S3) (k0_off41 (grid0.coords t)) S1.size hi)).squeeze S_ squeezes_S1_S_ = cellA cc0_scratch3 (sl t.val) := cellA_of _ (off41 t) hi
@[sl_canon] theorem canon42 (t : Fin grid0.N) (hi) : (ring1.slice (Rect.unit (s := S3x1024x1024) (k0_off42 (grid0.coords t)) S1x1024x1024.size hi) (fun _ => rfl)).squeeze S1024x1024 squeezes_S1x1024x1024_S1024x1024 = slotM ring1 (sl t.val) := slotM_of _ (off42 t) hi
@[sl_canon] theorem canon43 (t : Fin grid0.N) (hi) : (xM.slice (Rect.unit (s := S4x8192x1024) (k0_off43 (grid0.coords t)) S1x1024x1024.size hi) (fun _ => rfl)).squeeze S1024x1024 squeezes_S1x1024x1024_S1024x1024 = blockM (bk t.val) := blockM_of _ (off43 t) hi
@[sl_canon] theorem canon45 (t : Fin grid0.N) (hi) : (cc0_scratch2.slice (Rect.unit (s := S3) (k0_off45 (grid0.coords t)) S1.size hi)).squeeze S_ squeezes_S1_S_ = cellA cc0_scratch2 (sl t.val) := cellA_of _ (off45 t) hi
@[sl_canon] theorem canon46 (t : Fin grid0.N) (hi) : (ring0.slice (Rect.unit (s := S3x1024x1024) (k0_off46 (grid0.coords t)) S1x1024x1024.size hi) (fun _ => rfl)).squeeze S1024x1024 squeezes_S1x1024x1024_S1024x1024 = slotM ring0 (sl t.val) := slotM_of _ (off46 t) hi
@[sl_canon] theorem canon47 (t : Fin grid0.N) (hi) (h : t.val + 6 < 32) : (xM.slice (Rect.unit (s := S4x8192x1024) (k0_off47 (grid0.coords t)) S1x1024x1024.size hi) (fun _ => rfl)).squeeze S1024x1024 squeezes_S1x1024x1024_S1024x1024 = blockM (bk (t.val + 6)) := blockM_of _ (off47 t h) hi
@[sl_canon] theorem canon48 (t : Fin grid0.N) (hi) : (cc0_scratch3.slice (Rect.unit (s := S3) (k0_off48 (grid0.coords t)) S1.size hi)).squeeze S_ squeezes_S1_S_ = cellA cc0_scratch3 (sl t.val) := cellA_of _ (off48 t) hi
@[sl_canon] theorem canon49 (t : Fin grid0.N) (hi) : (ring1.slice (Rect.unit (s := S3x1024x1024) (k0_off49 (grid0.coords t)) S1x1024x1024.size hi) (fun _ => rfl)).squeeze S1024x1024 squeezes_S1x1024x1024_S1024x1024 = slotM ring1 (sl t.val) := slotM_of _ (off49 t) hi
@[sl_canon] theorem canon50 (t : Fin grid0.N) (hi) (h : t.val + 6 < 32) : (xM.slice (Rect.unit (s := S4x8192x1024) (k0_off50 (grid0.coords t)) S1x1024x1024.size hi) (fun _ => rfl)).squeeze S1024x1024 squeezes_S1x1024x1024_S1024x1024 = blockM (bk (t.val + 6)) := blockM_of _ (off50 t h) hi

instance (priority := high) closedOff40 (t : Fin grid0.N) : ClosedOff (k0_off40 (grid0.coords t)) := ⟨![(sl t.val).val, 0, 0], off40 t⟩
instance (priority := high) closedOff44 (t : Fin grid0.N) : ClosedOff (k0_off44 (grid0.coords t)) := ⟨![(sl t.val).val, 0, 0], off44 t⟩
end Canon

end Cert.Proof

end
-- ==== Proof.Run.lean ====
module

public import proofs.«01_k».proof.Proof.Names

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the result's buffer reads after the point's store, the table's buffer holding `y`. -/
theorem stored (c : Dev nD) (W : BufOf (F := F) c xM) (arg3 : Memref sig .tc .vmem S1024x1024 .f32) (harg3 : arg3.IsWhole)
    (arg4 : Memref sig .tc .vmem S1x1024x1024 .f32) (M : Memref sig .tc .vmem S3x1024x1024 .f32) (s : Fin 3) {off : Fin 3 → Nat}
    (ho : off = ![s.val, 0, 0]) (hi : ∀ a, off a + S1x1024x1024.size a ≤ S3x1024x1024.size a)
    (g : BufOf (F := F) c (slotM M s)) (b : Fin 32) (y : Vec F S1024x1024 .f32) (f : BufOf (F := F) c arg4) :
    arg4.view.read (Elt F) (arg4.view.writes (Elt F) f
      [⟨Rect.unit (s := S1x1024x1024) ![0, 0, 0] S1x1024x1024.size inb_S1x1024x1024_S1x1024x1024_0_0_0,
        shapeCast S1x1024x1024 (addf (shapeCast S1024x1024 (M.view.readAt (Elt F) (Rect.unit (s := S3x1024x1024) off S1x1024x1024.size hi).toLoadRect
            (landed M c W s b g)) shapeCasts_S1x1024x1024_S1024x1024)
          (arg3.view.readAt (Elt F) (Rect.unit (s := S1024x1024) ![0, 0] S1024x1024.size inb_S1024x1024_S1024x1024_0_0).toLoadRect (harg3.unread y)))
          shapeCasts_S1024x1024_S1x1024x1024⟩]) = outB c W b y := by
  refine (View.read_writes_full (s := S1x1024x1024) arg4.view f inb_S1x1024x1024_S1x1024x1024_0_0_0 _ []).trans ?_
  refine (pay_slot c W M s ho hi g b _).trans (congrArg (outB c W b) ?_)
  exact (View.readAt_full (s := S1024x1024) arg3.view (harg3.unread y) inb_S1024x1024_S1024x1024_0_0).trans (harg3.read_unread y)

set_option maxHeartbeats 400000 in
/-- What a point is handed and what it hands back, once the first point's copies are on their way: the two windows'
    buffers, the buffer of the point's turn, and the core's dues. -/
theorem run_point (c : Dev nD) (t : Fin cfg0.N) (arg3 : Memref sig .tc .vmem S1024x1024 .f32) (harg3 : arg3.IsWhole)
    (arg4 : Memref sig .tc .vmem S1x1024x1024 .f32) (harg4 : arg4.IsWhole) (h0 : t.val ≠ 0)
    (y : Vec F S1024x1024 .f32) (W : BufOf (F := F) c xM) (Wt : Waits sig Unit) (K : PUnit → sProp 𝕄) :
    iprop(owns (c : Thread nD τ) arg3 fullShare y ∗ (∃ d, owns (c : Thread nD τ) arg4 fullShare d)
        ∗ busy c W t.val (bk t.val) ∗ owes (c : Thread nD τ) 0 Wt
        ∗ (iprop(owns (c : Thread nD τ) arg3 fullShare y ∗ owns (c : Thread nD τ) arg4 fullShare (outB c W (bk t.val) y)
          ∗ after c W t.val ∗ (∃ W', owes (c : Thread nD τ) 0 W')) -∗ K ⟨⟩))
      ⊢ wp frame (wpE (defs₀ (F := F)) Variants.none c none) Set.univ (cc0__add_kernel (grid0.coords t) xM (Memref.isWhole_whole _) arg3 harg3 arg4 harg4 ring0 (Memref.isWhole_whole _) ring1 (Memref.isWhole_whole _) cc0_scratch2 cc0_scratch3) K := by
  unfold after busy idle
  by_cases hn : t.val + 6 < 32
  all_goals
    rcases Nat.mod_two_eq_zero_or_one t.val with he | he
    all_goals
      simp only [he, hn, one_ne_zero, ↓reduceIte]
      simp only [cc0__add_kernel_eq_skeleton]; unfold cc0__add_kernel_skel
      simp (config := { proj := false }) only [k0_part4_eq_skeleton, k0_part3_eq_skeleton]
      unfold owns busyP
      iintro ⟨⟨%f0, %hf0, H0⟩, ⟨%d1, %f1, -, H1⟩, ⟨%ff, Hf, Hrf⟩, HW, Hk⟩
      obtain rfl := harg3.eq_unread hf0
      sl_exec (disch := first | (simp only [cond1_iff t, cond14_iff t, cond15_iff t, cond16_iff t, cond17_iff t, cond18_iff t]; omega) | decide +kernel)
  iterate 2
    icases (whole_split (F := F) _ c W (sl t.val) (bk t.val)).2 $$ [Hf_src Hrf] with HWh
    · isplitl [Hf_src]
      · iexact Hf_src
      · iexact Hrf
    icases (whole_split (F := F) _ c W (sl t.val) (bk (t.val + 6))).1 $$ HWh with ⟨Hb, Hrf⟩
    sl_exec (disch := first | (simp only [cond1_iff t, cond14_iff t, cond15_iff t, cond16_iff t, cond17_iff t, cond18_iff t]; omega) | decide +kernel)
    sl_step
    iapply Hk
    isplitl [H0]
    · iexists _; isplitr
      · ipureintro; exact hf0
      · iexact H0
    isplitl [H1]
    · iexists _; isplitr; swap
      · iexact H1
      · ipureintro
        exact stored c W arg3 harg3 arg4 _ (sl t.val) (by first | rw [off40 t] | rw [off44 t]) _ _ (bk t.val) y _
    isplitl [Hf Hrf]
    · iexists _; isplitl [Hf]
      · iexact Hf
      · iexact Hrf
    iexists _; iexact HW
  iterate 2
    sl_step
    iapply Hk
    isplitl [H0]
    · iexists _; isplitr
      · ipureintro; exact hf0
      · iexact H0
    isplitl [H1]
    · iexists _; isplitr; swap
      · iexact H1
      · ipureintro
        exact stored c W arg3 harg3 arg4 _ (sl t.val) (by first | rw [off40 t] | rw [off44 t]) _ _ (bk t.val) y _
    isplitl [Hf Hf_dst Hf_src Hrf]
    · unfold idleP
      isplitl [Hf]; · iexact Hf
      iexists _; isplitl [Hf_dst]; · iexact Hf_dst
      iapply (whole_split (F := F) _ c W (sl t.val) (bk t.val)).2
      isplitl [Hf_src]; · iexact Hf_src
      iexact Hrf
    iexists _; iexact HW

set_option maxHeartbeats 400000 in
/-- The first point: it starts six copies, then takes block 0 as any point takes its block. -/
theorem run_first (c : Dev nD) (t : Fin cfg0.N) (arg3 : Memref sig .tc .vmem S1024x1024 .f32) (harg3 : arg3.IsWhole)
    (arg4 : Memref sig .tc .vmem S1x1024x1024 .f32) (harg4 : arg4.IsWhole) (h0 : t.val = 0)
    (y : Vec F S1024x1024 .f32) (W : BufOf (F := F) c xM) (Wt : Waits sig Unit) (K : PUnit → sProp 𝕄) :
    iprop(owns (c : Thread nD τ) arg3 fullShare y ∗ (∃ d, owns (c : Thread nD τ) arg4 fullShare d)
        ∗ idleP ring0 cc0_scratch2 fullShare.left c W 0 ∗ idleP ring1 cc0_scratch3 fullShare.right c W 0
        ∗ idleP ring0 cc0_scratch2 fullShare.left c W 1 ∗ idleP ring1 cc0_scratch3 fullShare.right c W 1
        ∗ idleP ring0 cc0_scratch2 fullShare.left c W 2 ∗ idleP ring1 cc0_scratch3 fullShare.right c W 2
        ∗ owes (c : Thread nD τ) 0 Wt
        ∗ (iprop(owns (c : Thread nD τ) arg3 fullShare y ∗ owns (c : Thread nD τ) arg4 fullShare (outB c W 0 y)
          ∗ busyP ring0 cc0_scratch2 fullShare.left c W 0 6 ∗ busyP ring1 cc0_scratch3 fullShare.right c W 0 1
          ∗ busyP ring0 cc0_scratch2 fullShare.left c W 1 2 ∗ busyP ring1 cc0_scratch3 fullShare.right c W 1 3
          ∗ busyP ring0 cc0_scratch2 fullShare.left c W 2 4 ∗ busyP ring1 cc0_scratch3 fullShare.right c W 2 5
          ∗ (∃ W', owes (c : Thread nD τ) 0 W')) -∗ K ⟨⟩))
      ⊢ wp frame (wpE (defs₀ (F := F)) Variants.none c none) Set.univ (cc0__add_kernel (grid0.coords t) xM (Memref.isWhole_whole _) arg3 harg3 arg4 harg4 ring0 (Memref.isWhole_whole _) ring1 (Memref.isWhole_whole _) cc0_scratch2 cc0_scratch3) K := by
  have hcanons : sl t.val = (0 : Fin 3) := Fin.ext (by simp [h0])
  have hcanonb : bk t.val = (0 : Fin 32) := Fin.ext (by simp [h0])
  have hcanonn : bk (t.val + 6) = (6 : Fin 32) := Fin.ext (by simp [h0])
  simp only [cc0__add_kernel_eq_skeleton]; unfold cc0__add_kernel_skel
  simp (config := { proj := false }) only [k0_part4_eq_skeleton, k0_part3_eq_skeleton]
  unfold owns idleP busyP
  iintro ⟨⟨%f0, %hf0, H0⟩, ⟨%d1, %f1, -, H1⟩, ⟨Hc0, %g0, Hs0, Hw0⟩, ⟨Hc1, %g1, Hs1, Hw1⟩, ⟨Hc2, %g2, Hs2, Hw2⟩, ⟨Hc3, %g3, Hs3, Hw3⟩, ⟨Hc4, %g4, Hs4, Hw4⟩, ⟨Hc5, %g5, Hs5, Hw5⟩, HW, Hk⟩
  icases (whole_split (F := F) fullShare.left c W 0 0).1 $$ Hw0 with ⟨Hb0, Hr0⟩
  icases (whole_split (F := F) fullShare.right c W 0 1).1 $$ Hw1 with ⟨Hb1, Hr1⟩
  icases (whole_split (F := F) fullShare.left c W 1 2).1 $$ Hw2 with ⟨Hb2, Hr2⟩
  icases (whole_split (F := F) fullShare.right c W 1 3).1 $$ Hw3 with ⟨Hb3, Hr3⟩
  icases (whole_split (F := F) fullShare.left c W 2 4).1 $$ Hw4 with ⟨Hb4, Hr4⟩
  icases (whole_split (F := F) fullShare.right c W 2 5).1 $$ Hw5 with ⟨Hb5, Hr5⟩
  obtain rfl := harg3.eq_unread hf0
  sl_exec (disch := first | (simp only [cond1_iff t, cond14_iff t, cond15_iff t, cond16_iff t, cond17_iff t, cond18_iff t]; omega) | decide +kernel)
  icases (whole_split (F := F) _ c W 0 0).2 $$ [Hb0 Hr0] with HWh
  · isplitl [Hb0]
    · iexact Hb0
    · iexact Hr0
  icases (whole_split (F := F) _ c W 0 6).1 $$ HWh with ⟨Hb0, Hr0⟩
  sl_exec (disch := first | (simp only [cond1_iff t, cond14_iff t, cond15_iff t, cond16_iff t, cond17_iff t, cond18_iff t]; omega) | decide +kernel)
  sl_step
  iapply Hk
  isplitl [H0]
  · iexists _; isplitr
    · ipureintro; exact hf0
    · iexact H0
  isplitl [H1]
  · iexists _; isplitr; swap
    · iexact H1
    · ipureintro
      exact stored c W arg3 harg3 arg4 _ 0 ((off40 t).trans (congrArg (fun s : Fin 3 => ![s.val, 0, 0]) hcanons)) _ _ 0 y _
  isplitl [Hc0 Hr0]
  · iexists _; isplitl [Hc0]
    · iexact Hc0
    · iexact Hr0
  isplitl [Hc1 Hr1]
  · iexists _; isplitl [Hc1]
    · iexact Hc1
    · iexact Hr1
  isplitl [Hc2 Hr2]
  · iexists _; isplitl [Hc2]
    · iexact Hc2
    · iexact Hr2
  isplitl [Hc3 Hr3]
  · iexists _; isplitl [Hc3]
    · iexact Hc3
    · iexact Hr3
  isplitl [Hc4 Hr4]
  · iexists _; isplitl [Hc4]
    · iexact Hc4
    · iexact Hr4
  isplitl [Hc5 Hr5]
  · iexists _; isplitl [Hc5]
    · iexact Hc5
    · iexact Hr5
  iexists _; iexact HW
end Cert.Proof

end
-- ==== Proof.Buffers.lean ====
/- The six slots together: what they hold before each point of the grid, how a point changes them, and that the
   scratch buffers, the semaphores at zero and the operand `x` are the six slots idle. -/
module

public import proofs.«01_k».proof.Proof.Names

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Buffers
variable (c : Dev nD) (W : BufOf (F := F) c xM)

/-- Buffer `p` of the six before point `k`: idle before the first point; from then on it waits for the first block
    from `k` on whose turn is `p`'s, if there is one. -/
def bufAt (k : ℕ) (p : Fin 6) : sProp 𝕄 :=
  if k ≠ 0 ∧ k + (p.val + 6 - k % 6) % 6 < 32 then busy c W p.val (bk (k + (p.val + 6 - k % 6) % 6)) else idle c W p.val
/-- The six buffers before point `k`. -/
def bufs (k : ℕ) : sProp 𝕄 := bigSep Finset.univ (bufAt c W k)
/-- The five buffers point `k` leaves alone. -/
def others (k : ℕ) : sProp 𝕄 := bigSep (Finset.univ.erase (⟨k % 6, Nat.mod_lt _ (by decide)⟩ : Fin 6)) (bufAt c W k)

theorem sl_mod (k : ℕ) : sl (k % 6) = sl k := Fin.ext (by show k % 6 / 2 % 3 = k / 2 % 3; omega)
theorem busy_mod (k : ℕ) (b : Fin 32) : busy c W (k % 6) b = busy c W k b := by
  unfold busy; rw [sl_mod, show k % 6 % 2 = k % 2 by omega]
theorem idle_mod (k : ℕ) : idle c W (k % 6) = idle c W k := by
  unfold idle; rw [sl_mod, show k % 6 % 2 = k % 2 by omega]

/-- Before a later point `k`, its own buffer has block `k` on its way. -/
theorem bufs_before {k : ℕ} (h0 : k ≠ 0) (hk : k < 32) : bufs c W k = iprop(busy c W k (bk k) ∗ others c W k) := by
  unfold bufs others
  rw [bigSep_erase (Finset.mem_univ (⟨k % 6, Nat.mod_lt _ (by decide)⟩ : Fin 6))]
  refine congrArg (fun P => iprop(P ∗ _)) ?_
  unfold bufAt
  rw [show k + (k % 6 + 6 - k % 6) % 6 = k by omega, if_pos ⟨h0, hk⟩, busy_mod]
/-- After it, its own buffer is as the point leaves it, and the others are as they were. -/
theorem bufs_next {k : ℕ} (h0 : k ≠ 0) : bufs c W (k + 1) = iprop(after c W k ∗ others c W k) := by
  unfold bufs others
  rw [bigSep_erase (Finset.mem_univ (⟨k % 6, Nat.mod_lt _ (by decide)⟩ : Fin 6))]
  refine congrArg₂ (fun P Q => iprop(P ∗ Q)) ?_ (bigSep_congr fun p hp => ?_)
  · unfold bufAt after
    rw [show k + 1 + (k % 6 + 6 - (k + 1) % 6) % 6 = k + 6 by omega, busy_mod, idle_mod]
    simp
  · have hp' : p.val ≠ k % 6 := fun h => (Finset.mem_erase.mp hp).1 (Fin.ext h)
    have := p.isLt
    unfold bufAt
    rw [show k + 1 + (p.val + 6 - (k + 1) % 6) % 6 = k + (p.val + 6 - k % 6) % 6 by omega]
    simp [h0]

/-- The six buffers, one by one. -/
theorem six {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The six slots idle. -/
def sixIdle : sProp 𝕄 :=
  iprop(idleP ring0 cc0_scratch2 fullShare.left c W 0 ∗ idleP ring1 cc0_scratch3 fullShare.right c W 0
    ∗ idleP ring0 cc0_scratch2 fullShare.left c W 1 ∗ idleP ring1 cc0_scratch3 fullShare.right c W 1
    ∗ idleP ring0 cc0_scratch2 fullShare.left c W 2 ∗ idleP ring1 cc0_scratch3 fullShare.right c W 2)

theorem bufs_zero : bufs c W 0 = sixIdle c W := by unfold bufs; rw [six]; rfl
theorem bufs_last : bufs c W 32 = sixIdle c W := by unfold bufs; rw [six]; rfl
theorem bufs_one : bufs c W 1
    = iprop(busyP ring0 cc0_scratch2 fullShare.left c W 0 6 ∗ busyP ring1 cc0_scratch3 fullShare.right c W 0 1
      ∗ busyP ring0 cc0_scratch2 fullShare.left c W 1 2 ∗ busyP ring1 cc0_scratch3 fullShare.right c W 1 3
      ∗ busyP ring0 cc0_scratch2 fullShare.left c W 2 4 ∗ busyP ring1 cc0_scratch3 fullShare.right c W 2 5) := by
  unfold bufs; rw [six]; rfl

/-! ## From the launch to the idle slots, and back -/

abbrev slotSet (s : Fin 3) : Finset S3x1024x1024.Idx := (Rect.unit (s := S3x1024x1024) ![s.val, 0, 0] S1x1024x1024.size (slot_inb s)).set
theorem slotSet_disjoint (s s' : Fin 3) (h : s ≠ s') : Disjoint (slotSet s) (slotSet s') :=
  Ring.lead_disjoint (s := S3x1024x1024) (0 : Fin 3) 1 (fun s : Fin 3 => ![s.val, 0, 0]) S1x1024x1024.size slot_inb (fun s => by simp) rfl s s' h
theorem slotSet_cover : Finset.univ.biUnion slotSet = Finset.univ :=
  Ring.lead_cover (s := S3x1024x1024) (0 : Fin 3) 1 (fun s : Fin 3 => ![s.val, 0, 0]) S1x1024x1024.size slot_inb (fun s => by simp)
    (fun s a ha => by fin_cases a <;> first | exact absurd rfl ha | rfl) rfl
    (fun a ha => by fin_cases a <;> first | exact absurd rfl ha | rfl) rfl
theorem slotSet0 (s : Fin 3) : (slotM ring0 s).view.set = slotSet s := by
  simp only [slotM, Memref.view_squeeze, View.set_reshape]; exact View.set_slice_whole _ _
theorem slotSet1 (s : Fin 3) : (slotM ring1 s).view.set = slotSet s := by
  simp only [slotM, Memref.view_squeeze, View.set_reshape]; exact View.set_slice_whole _ _
theorem slotP0 (s : Fin 3) (f) : slotP (F := F) ring0 c s f = (((c : Thread nD τ).loc cc0_scratch0) ↦[slotSet s]{fullShare} f : sProp 𝕄) := by
  unfold slotP; rw [slotSet0]; rfl
theorem slotP1 (s : Fin 3) (f) : slotP (F := F) ring1 c s f = (((c : Thread nD τ).loc cc0_scratch1) ↦[slotSet s]{fullShare} f : sProp 𝕄) := by
  unfold slotP; rw [slotSet1]; rfl

/-- A ring's three slots, each at something. -/
abbrev slots (M : Memref sig .tc .vmem S3x1024x1024 .f32) : sProp 𝕄 :=
  iprop((∃ f, slotP (F := F) M c 0 f) ∗ (∃ f, slotP (F := F) M c 1 f) ∗ ∃ f, slotP (F := F) M c 2 f)
theorem slots0 : iprop(∃ f, ((c : Thread nD τ).loc cc0_scratch0) ↦{fullShare} f) ⊣⊢ slots (F := F) c ring0 :=
  ⟨Ring.slots3_split (U := Pipeline.UD sig nD τ) (ℓ := (c : Thread nD τ).loc cc0_scratch0) (q := fullShare) slotSet slotSet_disjoint slotSet_cover
      _ _ _ (slotP0 c 0) (slotP0 c 1) (slotP0 c 2),
    Ring.slots3_join (U := Pipeline.UD sig nD τ) (ℓ := (c : Thread nD τ).loc cc0_scratch0) (q := fullShare) slotSet slotSet_disjoint slotSet_cover
      _ _ _ (slotP0 c 0) (slotP0 c 1) (slotP0 c 2)⟩
theorem slots1 : iprop(∃ f, ((c : Thread nD τ).loc cc0_scratch1) ↦{fullShare} f) ⊣⊢ slots (F := F) c ring1 :=
  ⟨Ring.slots3_split (U := Pipeline.UD sig nD τ) (ℓ := (c : Thread nD τ).loc cc0_scratch1) (q := fullShare) slotSet slotSet_disjoint slotSet_cover
      _ _ _ (slotP1 c 0) (slotP1 c 1) (slotP1 c 2),
    Ring.slots3_join (U := Pipeline.UD sig nD τ) (ℓ := (c : Thread nD τ).loc cc0_scratch1) (q := fullShare) slotSet slotSet_disjoint slotSet_cover
      _ _ _ (slotP1 c 0) (slotP1 c 1) (slotP1 c 2)⟩

/-- A ring's slots, its cells at zero and a share of `x` are its three slots idle. -/
theorem ring_idle (M : Memref sig .tc .vmem S3x1024x1024 .f32) (A : DmaSems sig S3) (q : PosShare TreeShare) :
    iprop(slots (F := F) c M ∗ (cellP (F := F) A c 0 ∗ cellP (F := F) A c 1 ∗ cellP (F := F) A c 2) ∗ ((c : Thread nD τ).loc main_arg0) ↦{q} W)
      ⊣⊢ iprop(idleP M A q c W 0 ∗ idleP M A q c W 1 ∗ idleP M A q c W 2) := by
  unfold idleP
  refine ⟨?_, ?_⟩
  · iintro ⟨⟨⟨%f0, S0⟩, ⟨%f1, S1⟩, ⟨%f2, S2⟩⟩, ⟨C0, C1, C2⟩, X⟩
    icases (Ring.pointsTo_thirds q W).1 $$ X with ⟨X0, X1, X2⟩
    isplitl [S0 C0 X0]
    · isplitl [C0]; · iexact C0
      iexists f0; isplitl [S0]; · iexact S0
      iexact X0
    isplitl [S1 C1 X1]
    · isplitl [C1]; · iexact C1
      iexists f1; isplitl [S1]; · iexact S1
      iexact X1
    isplitl [C2]; · iexact C2
    iexists f2; isplitl [S2]; · iexact S2
    iexact X2
  · iintro ⟨⟨C0, %f0, S0, X0⟩, ⟨C1, %f1, S1, X1⟩, ⟨C2, %f2, S2, X2⟩⟩
    isplitl [S0 S1 S2]
    · isplitl [S0]; · iexists f0; iexact S0
      isplitl [S1]; · iexists f1; iexact S1
      iexists f2; iexact S2
    isplitl [C0 C1 C2]
    · isplitl [C0]; · iexact C0
      isplitl [C1]; · iexact C1
      iexact C2
    iapply (Ring.pointsTo_thirds q W).2
    isplitl [X0]; · iexact X0
    isplitl [X1]; · iexact X1
    iexact X2

/-- The kernel's own semaphores: the two rings' cells. -/
abbrev cells : Fin 6 → SemLoc sig := fun j => (![SemLoc.dma 4, SemLoc.dma 5, SemLoc.dma 6, SemLoc.dma 7, SemLoc.dma 8, SemLoc.dma 9] : Fin 6 → SemLoc sig) j
theorem cells_facts : Pipeline.OwnSemFacts spec0 cells := by decide
theorem cells_zero : (Pipeline.ownSems0 (Ix := Unit) (Name := ℕ) (U := Pipeline.UD sig nD τ) (Lvl := ℕ) (Val := Elt F) (τ := τ) cells c : sProp 𝕄)
    = iprop(cellP (F := F) cc0_scratch2 c 0 ∗ cellP (F := F) cc0_scratch2 c 1 ∗ cellP (F := F) cc0_scratch2 c 2
      ∗ cellP (F := F) cc0_scratch3 c 0 ∗ cellP (F := F) cc0_scratch3 c 1 ∗ cellP (F := F) cc0_scratch3 c 2) := by
  have h2 : ∀ s : Fin 3, cellL cc0_scratch2 s = (![SemLoc.dma 4, SemLoc.dma 5, SemLoc.dma 6] : Fin 3 → SemLoc sig) s := by decide
  have h3 : ∀ s : Fin 3, cellL cc0_scratch3 s = (![SemLoc.dma 7, SemLoc.dma 8, SemLoc.dma 9] : Fin 3 → SemLoc sig) s := by decide
  unfold cellP
  rw [h2, h2, h2, h3, h3, h3, Pipeline.ownSems0_eq_of_list c cells [0, 1, 2, 3, 4, 5] (by decide) (by decide)]; rfl

/-- The operand the kernel moves itself. -/
def moved : Finset (Ref sig .tc) := {main_arg0}
theorem moved_sub : moved ⊆ Pipeline.restRefs sig spec0 := by decide

/-- What the launch hands over, beside the generator's register, is the six slots idle. -/
theorem launch_idle :
    iprop((∃ f, ((c : Thread nD τ).loc cc0_scratch0) ↦{fullShare} f) ∗ (∃ f, ((c : Thread nD τ).loc cc0_scratch1) ↦{fullShare} f)
        ∗ Pipeline.ownSems0 (Ix := Unit) (Name := ℕ) (U := Pipeline.UD sig nD τ) (Lvl := ℕ) (Val := Elt F) (τ := τ) cells c
        ∗ ((c : Thread nD τ).loc main_arg0) ↦{fullShare} W)
      ⊣⊢ sixIdle c W := by
  unfold sixIdle
  rw [cells_zero]
  refine ⟨?_, ?_⟩
  · iintro ⟨S0, S1, ⟨A0, A1, A2, B0, B1, B2⟩, X⟩
    icases (pointsTo_share (PosShare.mem_left_op_right fullShare)).1 $$ X with ⟨XL, XR⟩
    icases (slots0 c).1 $$ S0 with S0
    icases (slots1 c).1 $$ S1 with S1
    icases (ring_idle c W ring0 cc0_scratch2 fullShare.left).1 $$ [S0 A0 A1 A2 XL] with ⟨I0, I2, I4⟩
    · isplitl [S0]; · iexact S0
      isplitl [A0 A1 A2]
      · isplitl [A0]; · iexact A0
        isplitl [A1]; · iexact A1
        iexact A2
      iexact XL
    icases (ring_idle c W ring1 cc0_scratch3 fullShare.right).1 $$ [S1 B0 B1 B2 XR] with ⟨I1, I3, I5⟩
    · isplitl [S1]; · iexact S1
      isplitl [B0 B1 B2]
      · isplitl [B0]; · iexact B0
        isplitl [B1]; · iexact B1
        iexact B2
      iexact XR
    isplitl [I0]; · iexact I0
    isplitl [I1]; · iexact I1
    isplitl [I2]; · iexact I2
    isplitl [I3]; · iexact I3
    isplitl [I4]; · iexact I4
    iexact I5
  · iintro ⟨I0, I1, I2, I3, I4, I5⟩
    icases (ring_idle c W ring0 cc0_scratch2 fullShare.left).2 $$ [I0 I2 I4] with ⟨S0, ⟨A0, A1, A2⟩, XL⟩
    · isplitl [I0]; · iexact I0
      isplitl [I2]; · iexact I2
      iexact I4
    icases (ring_idle c W ring1 cc0_scratch3 fullShare.right).2 $$ [I1 I3 I5] with ⟨S1, ⟨B0, B1, B2⟩, XR⟩
    · isplitl [I1]; · iexact I1
      isplitl [I3]; · iexact I3
      iexact I5
    isplitl [S0]; · iapply (slots0 c).2; iexact S0
    isplitl [S1]; · iapply (slots1 c).2; iexact S1
    isplitl [A0 A1 A2 B0 B1 B2]
    · isplitl [A0]; · iexact A0
      isplitl [A1]; · iexact A1
      isplitl [A2]; · iexact A2
      isplitl [B0]; · iexact B0
      isplitl [B1]; · iexact B1
      iexact B2
    iapply (pointsTo_share (PosShare.mem_left_op_right fullShare)).2
    isplitl [XL]; · iexact XL
    iexact XR
end Buffers

end Cert.Proof

end
-- ==== Proof.Launch.lean ====
/- The launch: the proof data of the pipeline, the body at every point, and the run of the whole program, with the
   counters at zero at the end. -/
module

public import proofs.«01_k».proof.Proof.Run
public import proofs.«01_k».proof.Proof.Buffers
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What holds between points: the generator's register at some state, and the six buffers. -/
def inv (c : Dev nD) (k : ℕ) : sProp 𝕄 := iprop((∃ r, prngReg c r) ∗ bufs c (V m c main_arg0) k)

/-- The proof data: the table's window keeps its block, the result's window is left at the point's block of sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outB c (V m c main_arg0) (bk t.val) (iblk m c 0 t)
  Φ t := inv m c t.val
  q _ := fullShare
  owed _ := 0

theorem dats_A (c : Dev nD) (w : Fin cfg0.W) : (dats m 0 c).A w = V m c (Pipeline.arrRef spec0 w) := by dsimp only [dats]
theorem after_table (c : Dev nD) (t : Fin cfg0.N) : (dats m 0 c).after 0 t = iblk m c 0 t := by dsimp only [dats]
theorem after_result (c : Dev nD) (t : Fin cfg0.N) :
    (dats m 0 c).after 1 t = outB c (V m c main_arg0) (bk t.val) (iblk m c 0 t) := by dsimp only [dats]
theorem inv_start (c : Dev nD) (t : Fin cfg0.N) : (dats m 0 c).Φ t.castSucc = inv m c t.val := by
  dsimp only [dats]; simp only [Fin.val_castSucc]
theorem inv_end (c : Dev nD) (t : Fin cfg0.N) : (dats m 0 c).Φ t.succ = inv m c (t.val + 1) := by
  dsimp only [dats]; simp only [Fin.val_succ]

/-- The table's buffer holds its block at every point, fetched there or left from the point before. -/
theorem before_table (c : Dev nD) (t : Fin cfg0.N) (d) : (dats m 0 c).before 0 t d = iblk m c 0 t :=
  ((dats m 0 c).before_in_eq_fetched 0 rfl (fun _ => rfl) (fun _ _ _ => rfl)
    (fun t => by rw [after_table]; unfold Dat.blockOf iblk; rw [dats_A]) t d).trans
    (by unfold Dat.fetched Dat.blockOf iblk; rw [dats_A]; try rfl)

/-- The windows' buffers at point `t`. -/
abbrev st0 (t : Fin cfg0.N) : Memref sig .tc .vmem S1024x1024 .f32 := win0_0.stage (cfg0.slots t 0)
abbrev st1 (t : Fin cfg0.N) : Memref sig .tc .vmem S1x1024x1024 .f32 := win0_1.stage (cfg0.slots t 1)

/-- The body at a point, from what the pipeline hands it to what it takes back. -/
theorem body_at (c : Dev nD) (t : Fin cfg0.N) :
    iprop((dats m 0 c).Φ t.castSucc ∗ (dats m 0 c).owesAt () t.castSucc
        ∗ (∃ d, owns (c : Thread nD τ) (st0 t) fullShare ((dats m 0 c).before 0 t d))
        ∗ (∃ d, owns (c : Thread nD τ) (st1 t) fullShare ((dats m 0 c).before 1 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0 t) fullShare ((dats m 0 c).after 0 t)
          ∗ owns (c : Thread nD τ) (st1 t) fullShare ((dats m 0 c).after 1 t))) := by
  have hN : t.val < 32 := lt_of_lt_of_eq t.isLt (show cfg0.N = 32 from N_0)
  simp only [before_table]
  rw [after_table, after_result, inv_start, inv_end]
  unfold Dat.owesAt Pipeline.owesWithin bodyAt0 inv
  rw [show (dats m 0 c).owed t.castSucc = 0 from rfl, show (dats m 0 c).owed t.succ = 0 from rfl]
  by_cases h0 : t.val = 0
  · rw [show bk t.val = 0 from Fin.ext (by simp [h0]), show t.val + 1 = 1 by omega, h0, bufs_zero, bufs_one]
    unfold sixIdle
    iintro ⟨⟨Hg, I0, I1, I2, I3, I4, I5⟩, ⟨%Wt, -, HW⟩, ⟨%d0, H0⟩, ⟨%d1, H1⟩⟩
    iapply (run_first c t (st0 t) (hstage0_0 _) (st1 t) (hstage0_1 _) h0 (iblk m c 0 t) (V m c main_arg0) Wt _)
    isplitl [H0]; · iexact H0
    isplitl [H1]; · iexists _; iexact H1
    isplitl [I0]; · iexact I0
    isplitl [I1]; · iexact I1
    isplitl [I2]; · iexact I2
    isplitl [I3]; · iexact I3
    isplitl [I4]; · iexact I4
    isplitl [I5]; · iexact I5
    isplitl [HW]; · iexact HW
    iintro ⟨H0, H1, B0, B1, B2, B3, B4, B5, ⟨%W', HW⟩⟩
    isplitl [Hg B0 B1 B2 B3 B4 B5]
    · isplitl [Hg]; · iexact Hg
      isplitl [B0]; · iexact B0
      isplitl [B1]; · iexact B1
      isplitl [B2]; · iexact B2
      isplitl [B3]; · iexact B3
      isplitl [B4]; · iexact B4
      iexact B5
    isplitl [HW]
    · iexists W'; isplitr
      · ipureintro; exact fun _ _ => Or.inl trivial
      · iexact HW
    isplitl [H0]; · iexact H0
    iexact H1
  · rw [bufs_before c _ h0 hN, bufs_next c _ h0]
    iintro ⟨⟨Hg, HB, HO⟩, ⟨%Wt, -, HW⟩, ⟨%d0, H0⟩, ⟨%d1, H1⟩⟩
    iapply (run_point c t (st0 t) (hstage0_0 _) (st1 t) (hstage0_1 _) h0 (iblk m c 0 t) (V m c main_arg0) Wt _)
    isplitl [H0]; · iexact H0
    isplitl [H1]; · iexists _; iexact H1
    isplitl [HB]; · iexact HB
    isplitl [HW]; · iexact HW
    iintro ⟨H0, H1, HB, ⟨%W', HW⟩⟩
    isplitl [Hg HB HO]
    · isplitl [Hg]; · iexact Hg
      isplitl [HB]; · iexact HB
      iexact HO
    isplitl [HW]
    · iexists W'; isplitr
      · ipureintro; exact fun _ _ => Or.inl trivial
      · iexact HW
    isplitl [H0]; · iexact H0
    iexact H1

theorem body_row (t : Fin cfg0.N) : defs₀ (F := F) .tc cfg0.body (cfg0.bodyArgs t (cfg0.slots t)) = bodyAt0 t := by
  unfold defs₀; rw [Defs.onTc_tc]

/-- The result's window is written back at every point, so the pipeline takes its buffer back at the point's block. -/
theorem left_result (c : Dev nD) (t : Fin cfg0.N) :
    owns (c : Thread nD τ) (st1 t) fullShare ((dats m 0 c).after 1 t) ⊢ (dats m 0 c).leavesExact 1 t := by
  unfold Dat.leavesExact
  rw [flush0_1 t]
  cases cfg0.idle 1 (cfg0.grid.coords t)
  · exact .rfl
  · exact .rfl

theorem body_all (c : Dev nD) : BodyObligation (dats (F := F) m 0 c) (defs₀ (F := F)) Variants.none () Set.univ := fun t => by
  rw [bigSep_W0, bigSep_W0, body_row]
  refine triple_restated (body_at m c t) rfl .rfl fun _ => ?_
  iintro ⟨HP, HW, H0, H1⟩
  isplitl [HP]; · iexact HP
  isplitl [HW]; · iexact HW
  isplitl [H0]; · iexact H0
  iapply (left_result m c t)
  iexact H1

/-- What the launch hands the region, piece by piece. -/
theorem launch_eq (c : Dev nD) : (Pipeline.ΦD cells spec0 moved (V m) c : sProp 𝕄)
    = iprop(iprop((∃ f, ((c : Thread nD τ).loc cc0_scratch0) ↦{fullShare} f) ∗ (∃ f, ((c : Thread nD τ).loc cc0_scratch1) ↦{fullShare} f))
      ∗ (∃ r, prngReg c r) ∗ Pipeline.ownSems0 cells c ∗ ((c : Thread nD τ).loc main_arg0) ↦{fullShare} V m c main_arg0) := by
  rw [Pipeline.ΦD_eq, scopedRest0_eq, show (bigSep moved (fun b => ((c : Thread nD τ).loc b) ↦{fullShare} V m c b) : sProp 𝕄)
    = (((c : Thread nD τ).loc main_arg0) ↦{fullShare} V m c main_arg0 : sProp 𝕄) by
      rw [BI.bigSep_eq_bigSepL_of_eq [main_arg0] (by decide) (by decide)]; rfl]

theorem enter (c : Dev nD) : Pipeline.ΦD cells spec0 moved (V m) c ⊢ (dats m 0 c).Φ 0 := by
  rw [launch_eq, show (dats m 0 c).Φ 0 = inv m c 0 from rfl]
  unfold inv; rw [bufs_zero]
  iintro ⟨⟨S0, S1⟩, Hg, Hc, X⟩
  isplitl [Hg]; · iexact Hg
  iapply (launch_idle c (V m c main_arg0)).1
  isplitl [S0]; · iexact S0
  isplitl [S1]; · iexact S1
  isplitl [Hc]; · iexact Hc
  iexact X
theorem leave (c : Dev nD) : (dats m 0 c).Φ (Fin.last cfg0.N) ⊢ Pipeline.ΦD cells spec0 moved (V m) c := by
  rw [launch_eq, show (dats m 0 c).Φ (Fin.last cfg0.N) = inv m c grid0.N from rfl, N_0]
  unfold inv; rw [bufs_last]
  iintro ⟨Hg, HI⟩
  icases (launch_idle c (V m c main_arg0)).2 $$ HI with ⟨S0, S1, Hc, X⟩
  isplitl [S0 S1]
  · isplitl [S0]; · iexact S0
    iexact S1
  isplitl [Hg]; · iexact Hg
  isplitl [Hc]; · iexact Hc
  iexact X

theorem main_region (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every execution ends, with each window's array as the proof data has it at the end, every other array as at the
    start, and every counter at zero. -/
theorem run_all : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 cells defs₀ Variants.none cells_facts moved moved_sub m ρ main
    (hbody := fun c => (body_all m c).loose) (hshare := fun c => (dats m 0 c).share_full fun _ => rfl)
    (howed := fun _ _ => rfl) (V := V m) (hmain := main_region m Variants.none) (hA := dats_A m) (hin := enter m) (hout := leave m)

/-- Every execution ends with the arguments unchanged, the result at what the proof data's last point leaves of it,
    and every counter at zero. -/
theorem run_result : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v0) = (dats m 0 c).arrAt 1 cfg0.N) ∧ r.2.sem = fun _ => 0) :=
  (θ_run defs _ _).mono (fun _ h => ⟨fun c =>
    ⟨⟨(h.1 c).2 main_arg0 (Pipeline.mem_restRefs_of main_arg0 (by decide) (by decide)),
      ((h.1 c).1 0).trans (((dats m 0 c).arrAt_in 0 rfl _).trans (dats_A m c 0))⟩, (h.1 c).1 1⟩, h.2⟩) (run_all m ρ)

end Cert.Proof

end
-- ==== Proof.Reference.lean ====
/- The reference's result, index by index: its gather at the positions 0, 1, 2, … is the table itself, so it is
   each element of the first argument plus the table's element at the last two coordinates. -/
module

public import proofs.«01_k».proof.Proof.Gen.ReferenceIdeal.Run
public import Idealize.ShloMosaic.Lib.StableHlo.Predicate
public import Idealize.ShloMosaic.Lib.ValueIdx
public import Idealize.ShloMosaic.Lib.Quiescent
public import Idealize.ShloMosaic.Lib.Pipeline.Value

@[expose] public section

noncomputable section

namespace Cert.Proof

open Cert.ReferenceIdeal Idealize.ShloMosaic Idealize.ShloMosaic.TcCoe Idealize.SL.Sem

variable {F : FTy → Type} [FloatOps F]

/-- The table's index under an index of the result: its last two coordinates. -/
abbrev under (i : S4x8192x1024.Idx) : S8192x1024.Idx := fun a => match a with | ⟨0, _⟩ => i 1 | ⟨1, _⟩ => i 2

/-- Every element of `X` plus the element of `T` at its last two coordinates. -/
def sums (X : FVec F S4x8192x1024 .f32) (T : FVec F S8192x1024 .f32) : FVec F S4x8192x1024 .f32 :=
  fun i => FloatOps.addf (X i) (T (under i))

/-- A position, as the word the reference computes with. -/
theorem pos_toNat {p : ℕ} (hp : p < 8192) : (BitVec.ofNat 32 p).toNat = p := by
  rw [BitVec.toNat_ofNat]; omega

/-- No position is negative, so the wrapping of negative positions does nothing. -/
theorem positions_eq (h) (B : IVec S8192 32) : select (cmpi .slt (iotaInDim S8192 32 0) (broadcastInDim S8192 ![] h (constantI S_ 32 0#32))) B
    (iotaInDim S8192 32 0) = iotaInDim S8192 32 0 := by
  funext i
  have hi : (i 0).val < 8192 := (i 0).isLt
  have hn : ¬ IntOp.cmpi .slt (BitVec.ofNat 32 (i 0).val) 0#32 = 1#1 := by
    rw [StableHlo.Predicate.slt_iff_toNat (by rw [pos_toNat hi]; omega) (by decide)]
    exact Nat.not_lt_zero _
  show Scalar.select (IntOp.cmpi .slt (BitVec.ofNat 32 (i 0).val) 0#32) (B i) (iotaInDim S8192 32 0 i) = _
  rw [ValueIdx.eq_zero_of_ne_one hn]; rfl

/-- A conjunction of bits that are all `1` is `1`. -/
theorem fold_ones {α : Type} (x : α → BitVec 1) (hx : ∀ i, x i = 1#1) (l : List α) :
    l.foldl (fun r i => IntOp.andi r (x i)) 1#1 = 1#1 := by
  induction l with
  | nil => rfl
  | cons a l ih => rw [List.foldl_cons, hx a]; exact ih

/-- Every position is inside the table. -/
theorem in_range (h1 h2 h3 h4 hr hu) : Host.reduce IntOp.andi
      (andi (cmpi .sge (broadcastInDim S8192x1 ![0] h4 (iotaInDim S8192 32 0)) (broadcastInDim S8192x1 ![] h1 (constantI S_ 32 0#32)))
        (cmpi .sle (broadcastInDim S8192x1 ![0] h4 (iotaInDim S8192 32 0))
          (broadcastInDim S8192x1 ![0, 1] h2 (broadcastInDim S1x1 ![1] h3 (constantI S1 32 8191#32)))))
      (constantI S_ 1 1#1) (axes := [1]) (t := S8192) hr hu = fun _ => 1#1 := by
  funext j
  rw [Host.reduce_eq_foldl]
  refine fold_ones _ (fun i => ?_) _
  have hi : (i 0).val < 8192 := (i 0).isLt
  have hp : broadcastInDim S8192x1 ![0] h4 (iotaInDim S8192 32 0) i = BitVec.ofNat 32 (i 0).val := rfl
  have ha : IntOp.cmpi .sge (BitVec.ofNat 32 (i 0).val) 0#32 = 1#1 :=
    (StableHlo.Predicate.sge_iff_toNat (by rw [pos_toNat hi]; omega) (by decide)).mpr (Nat.zero_le _)
  have hb : IntOp.cmpi .sle (BitVec.ofNat 32 (i 0).val) 8191#32 = 1#1 :=
    (StableHlo.Predicate.sle_iff_toNat (by rw [pos_toNat hi]; omega) (by decide)).mpr (by
      rw [pos_toNat hi]; show (i 0).val ≤ 8191; omega)
  show IntOp.andi (IntOp.cmpi .sge (broadcastInDim S8192x1 ![0] h4 (iotaInDim S8192 32 0) i) 0#32)
    (IntOp.cmpi .sle (broadcastInDim S8192x1 ![0] h4 (iotaInDim S8192 32 0) i) 8191#32) = 1#1
  rw [hp, ha, hb]; rfl

/-- The rows of a table gathered at its own positions are the table. -/
theorem gather_positions {α : Type} (h) (T : S8192x1024.Idx → α) :
    Host.gather gather_S8192x1024_S8192x1_S8192x1024_1_0_n_n_0_1_11024 T (broadcastInDim S8192x1 ![0] h (iotaInDim S8192 32 0)) = T := by
  funext j
  have hj : (j 0).val < 8192 := (j 0).isLt
  unfold Host.gather
  congr 1
  funext a
  refine Fin.ext ?_
  show GatherDims.start _ j _ a + GatherDims.batchCoord _ j a + GatherDims.offCoord _ j a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S8192x1024_S8192x1_S8192x1024_1_0_n_n_0_1_11024.startIndexMap from List.mem_singleton.mpr rfl)]
    show min (BitVec.toInt (BitVec.ofNat 32 (j 0).val)).toNat 8191 = (j 0).val
    rw [StableHlo.Predicate.toInt_ofNat_small _ (by omega)]
    omega
  · unfold GatherDims.start GatherDims.offCoord
    rw [dif_neg (show (1 : Fin 2) ∉ gather_S8192x1024_S8192x1_S8192x1024_1_0_n_n_0_1_11024.startIndexMap from
        fun h => absurd (List.mem_singleton.mp h) (by decide)),
      dif_pos (show (1 : Fin 2) ∈ gather_S8192x1024_S8192x1_S8192x1024_1_0_n_n_0_1_11024.sKept from
        (GatherDims.mem_sKept _ _).mpr ⟨fun h => absurd (List.mem_singleton.mp h) (by decide), List.not_mem_nil⟩), Nat.zero_add]
    have ho : ∀ (k : ℕ) (hk : k < gather_S8192x1024_S8192x1_S8192x1024_1_0_n_n_0_1_11024.offsetDims.length),
        gather_S8192x1024_S8192x1_S8192x1024_1_0_n_n_0_1_11024.offsetDims[k] = (1 : Fin 2) := fun k hk => by
      have hk' : k < 1 := hk
      obtain rfl : k = 0 := by omega
      rfl
    rw [ho]

/-- The table kept where the positions are inside it, which is everywhere, and spread over the batches, at an index. -/
theorem spread_apply {α : Type} (h0 h1 h2) (T D : S8192x1024.Idx → α) (i : S4x8192x1024.Idx) :
    broadcastInDim S4x8192x1024 ![0, 1, 2] h2 (broadcastInDim S1x8192x1024 ![1, 2] h1
      (select (broadcastInDim S8192x1024 ![0] h0 (fun _ : S8192.Idx => 1#1)) T D)) i = T (under i) := by
  refine (broadcastInDim_apply (s := S1x8192x1024) ![0, 1, 2] h2 _ i
    (fun a => match a with | ⟨0, _⟩ => (0 : Fin 1) | ⟨1, _⟩ => i 1 | ⟨2, _⟩ => i 2)
    (fun a => match a with | ⟨0, _⟩ => rfl | ⟨1, _⟩ => rfl | ⟨2, _⟩ => rfl)).trans ?_
  exact broadcastInDim_apply (s := S8192x1024) ![1, 2] h1 _ _ (under i) (fun a => match a with | ⟨0, _⟩ => rfl | ⟨1, _⟩ => rfl)

/-- The reference's run: its result is `sums` of its arguments, which end unchanged. -/
theorem reference_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4) = sums (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    rw [positions_eq, in_range, gather_positions]
    funext i
    exact congrArg (FloatOps.addf _) (spread_apply _ _ _ _ _ i)), (h c).2⟩) (Value.run m ρ)

/-- The reference's frame: it ends with its arguments unchanged; it has no semaphore. -/
theorem reference_frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (reference_run m ρ)

end Cert.Proof

end
-- ==== Proof.Result.lean ====
/- The kernel's result array: point by point the blocks of sums tile it, so it ends at `sums` of the two arguments. -/
module

public import proofs.«01_k».proof.Proof.Launch
public import proofs.«01_k».proof.Proof.Reference
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The blocks point `t` works on: the table's block `t / 4`, and the result's block `t / 4` of batch `t % 4`. -/
theorem table_index : ∀ t : Fin grid0.N, win0_0.index t = ![t.val / 4, 0] := by decide +kernel
theorem result_index : ∀ t : Fin grid0.N, win0_1.index t = ![t.val % 4, t.val / 4, 0] := by decide +kernel

/-- Where an element of a point's block sits in its array. -/
theorem table_at (t : Fin grid0.N) (z : S1024x1024.Idx) (a : Fin 2) :
    ((win0_0.rect t).emb z a).val = (![t.val / 4, 0] : Fin 2 → ℕ) a * S1024x1024.size a + (z a).val := by
  have h := Pipeline.Window.rect_emb_val win0_0 t z a
  rw [table_index] at h; exact h
theorem result_at (t : Fin grid0.N) (y : S1x1024x1024.Idx) (a : Fin 3) :
    ((win0_1.rect t).emb y a).val = (![t.val % 4, t.val / 4, 0] : Fin 3 → ℕ) a * S1x1024x1024.size a + (y a).val := by
  have h := Pipeline.Window.rect_emb_val win0_1 t y a
  rw [result_index] at h; exact h

/-- An element of block `b` of the first argument. -/
theorem blk_at (c : Dev nD) (X : BufOf (F := F) c xM) (b : Fin 32) (z : S1024x1024.Idx) : blk c X b z
    = X ((Rect.unit (s := S4x8192x1024) ![b.val % 4, 1024 * (b.val / 4), 0] S1x1024x1024.size (block_inb b)).emb (Fin.cons ⟨0, Nat.one_pos⟩ z)) :=
  (congrFun (Memref.read_squeeze_slice xM (Rect.unit (s := S4x8192x1024) ![b.val % 4, 1024 * (b.val / 4), 0] S1x1024x1024.size (block_inb b))
      (fun _ => rfl) squeezes_S1x1024x1024_S1024x1024 shapeCasts_S1x1024x1024_S1024x1024 X) z).trans
    ((shapeCast_dropUnit_apply _ _ shapeCasts_S1x1024x1024_S1024x1024 z).trans rfl)

/-- What point `t` writes back is its block of the array of sums. -/
theorem flushed_eq (c : Dev nD) (t : Fin cfg0.N) :
    (dats m 0 c).flushed 1 t = ((cfg0.win 1).blk t).view.read (Elt F) (sums (F := F) (V m c main_arg0) (V m c main_arg1)) := by
  have hN : t.val < 32 := lt_of_lt_of_eq t.isLt (show cfg0.N = 32 from N_0)
  unfold Dat.flushed
  rw [after_result]
  refine funext fun (y : S1x1024x1024.Idx) => ?_
  have hy0 : (y 0).val < 1 := (y 0).isLt
  refine (shapeCast_addUnit_apply _ _ shapeCasts_S1024x1024_S1x1024x1024 y).trans ?_
  refine congrArg₂ (FloatOps.addf (F := F) (φ := .f32)) ((blk_at c _ _ _).trans (congrArg (V m c main_arg0) (funext fun (a : Fin 3) => Fin.ext ?_)))
    (congrArg (V m c main_arg1) (funext fun (a : Fin 2) => Fin.ext ?_))
  · refine Eq.trans ?_ (result_at t y a).symm
    match a with
    | ⟨0, _⟩ => show t.val % 32 % 4 + 1 * 0 = t.val % 4 * 1 + (y 0).val; omega
    | ⟨1, _⟩ => show 1024 * (t.val % 32 / 4) + 1 * (y 1).val = t.val / 4 * 1024 + (y 1).val; omega
    | ⟨2, _⟩ => show 0 + 1 * (y 2).val = 0 * 1024 + (y 2).val; omega
  · refine (table_at t (fun a => y a.succ) a).trans ?_
    match a with
    | ⟨0, _⟩ => exact (result_at t y 1).symm
    | ⟨1, _⟩ => exact (result_at t y 2).symm

/-- Every element of the result is in the block of the point of its batch and its row's block. -/
theorem covered (i : S4x8192x1024.Idx) : ∃ t : Fin cfg0.N, (cfg0.win 1).flush t = true ∧ i ∈ ((cfg0.win 1).blk t).view.set := by
  have h0 : (i 0).val < 4 := (i 0).isLt
  have h1 : (i 1).val < 8192 := (i 1).isLt
  have h2 : (i 2).val < 1024 := (i 2).isLt
  have hN : grid0.N = 32 := N_0
  refine ⟨(⟨4 * ((i 1).val / 1024) + (i 0).val, by omega⟩ : Fin grid0.N), flush0_1 _, ?_⟩
  generalize ht : (⟨4 * ((i 1).val / 1024) + (i 0).val, by omega⟩ : Fin grid0.N) = t
  have hv : t.val = 4 * ((i 1).val / 1024) + (i 0).val := by rw [← ht]
  show i ∈ ((View.whole main_v0).slice (win0_1.rect t)).set
  rw [View.set_slice_whole, Rect.mem_set_unit]
  intro a
  show win0_1.index t a * S1x1024x1024.size a ≤ (i a).val ∧ (i a).val < win0_1.index t a * S1x1024x1024.size a + S1x1024x1024.size a
  rw [result_index]
  match a with
  | ⟨0, _⟩ => show t.val % 4 * 1 ≤ (i 0).val ∧ (i 0).val < t.val % 4 * 1 + 1; omega
  | ⟨1, _⟩ => show t.val / 4 * 1024 ≤ (i 1).val ∧ (i 1).val < t.val / 4 * 1024 + 1024; omega
  | ⟨2, _⟩ => show 0 * 1024 ≤ (i 2).val ∧ (i 2).val < 0 * 1024 + 1024; omega

/-- The result array at the end. -/
theorem result_eq (c : Dev nD) : (dats m 0 c).arrAt 1 cfg0.N
    = sums (F := F) (m ((c.tc : Thread nD τ).loc main_arg0)) (m ((c.tc : Thread nD τ).loc main_arg1)) :=
  (dats m 0 c).arrAt_eq_of_cover 1 _ (fun t _ => flushed_eq m c t) covered

end Cert.Proof

end
-- ==== Proof.lean ====
/- The proof of the certificate's claims. The kernel's run (Proof/Launch.lean) is proved once, for any float values:
   it gives the frame of the kernel as printed (Proof/Twin.lean: the two printed programs are one) and of the kernel
   read at the reals, and with the value of the result array (Proof/Result.lean) and the reference's run
   (Proof/Reference.lean) the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Launch
public import proofs.«01_k».proof.Proof.Reference
public import proofs.«01_k».proof.Proof.Result
public import Idealize.ShloMosaic.Adequacy
public import Idealize.ShloMosaic.Init

@[expose] public section

noncomputable section

namespace Cert.Proof

open Idealize.ShloMosaic Idealize.SL.Sem

/-- The kernel's frame, for any float values. -/
theorem kernel_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run _ _ _).mono (fun _ h => ⟨fun c => (h.1 c).1, h.2⟩) (run_result m ρ)

theorem frame_kernel : Cert.quiescent_Kernel := by
  intro m ρ _
  rw [defs_eq, main_eq]
  exact kernel_frame (F := Bits) m ρ
theorem frame_kernel_ideal : Cert.quiescent_KernelIdeal := fun m ρ _ => kernel_frame (F := Ideal) m ρ
theorem frame_reference : Cert.quiescent_ReferenceIdeal := fun m ρ _ => reference_frame (F := Ideal) m ρ

/-- From equal arguments the kernel and the reference end with equal results: `sums` of the arguments. -/
theorem values_equal : Cert.algebraic_KernelIdeal_ReferenceIdeal := by
  intro m ρ m' ρ' _ hargs
  refine ⟨fun c => sums (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run _ _ _).mono (fun _ h c => ⟨(h.1 c).2.trans (result_eq m c), (h.1 c).1⟩) (run_result (F := Ideal) m ρ)
  · exact (θ_run _ _ _).mono (fun _ h c =>
      ⟨(h c).1.trans (congrArg₂ (sums (F := Ideal)) (hargs c).1 (hargs c).2), (h c).2⟩) (reference_run (F := Ideal) m' ρ')

theorem claim : Cert.Claim := ⟨Cert.Kernel.Gen.facts, Cert.KernelIdeal.Gen.facts, Cert.ReferenceIdeal.Gen.facts,
  frame_kernel, frame_kernel_ideal, frame_reference, trivial, values_equal⟩

end Cert.Proof

end
